-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 4, 64]⟩ ⟨4, ![2, 128, 64, 64]⟩ 2 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 128, 64, 64]⟩ 2 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v48) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x4096 : Shape := ⟨2, ![512, 4096]⟩
abbrev S2x128x4x64 : Shape := ⟨4, ![2, 128, 4, 64]⟩
abbrev S4096x512 : Shape := ⟨2, ![4096, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x4096 : S_.BroadcastsInDim S512x4096 (![] : Fin 0 → Fin S512x4096.rank)
  reducesTo_S512x4096_S_d0_1 : S512x4096.ReducesTo [0, 1] S_
  bcast_S_S2x128x4x64 : S_.BroadcastsInDim S2x128x4x64 (![] : Fin 0 → Fin S2x128x4x64.rank)
  reducesTo_S2x128x4x64_S_d0_1_2_3 : S2x128x4x64.ReducesTo [0, 1, 2, 3] S_

variable [Facts]

def fn {F : FTy → Type} [FloatOps F] (main_arg0 : FVec F S2x128x512 .bf16) (main_arg1 : FVec F S512x4096 .bf16) (main_arg2 : FVec F S2x128x4x64 .bf16) (main_arg3 : FVec F S2x128x4x64 .bf16) (main_arg4 : FVec F S4096x512 .bf16) : IVec S_ 1 :=
  let main_v0 : FVec F S2x128x512 .bf16 := Host.absf main_arg0
  let main_cst : FVec F S_ .bf16 := constant S_ .bf16 0x7F80#16
  let main_v1 : FVec F S2x128x512 .bf16 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x4096 .bf16 := Host.absf main_arg1
  let main_cst_0 : FVec F S_ .bf16 := constant S_ .bf16 0x7F80#16
  let main_v5 : FVec F S512x4096 .bf16 := broadcastInDim S512x4096 ![] bcast_S_S512x4096 main_cst_0
  let main_v6 : IVec S512x4096 1 := cmpf .olt main_v4 main_v5
  let main_c_1 : IVec S_ 1 := constantI S_ 1 1#1
  let main_v7 : IVec S_ 1 := (fun x v => Host.reduce IntOp.andi x v reducesTo_S512x4096_S_d0_1 h_S_) main_v6 main_c_1
  let main_v8 : IVec S_ 1 := andi main_v3 main_v7
  let main_v9 : FVec F S2x128x4x64 .bf16 := Host.absf main_arg2
  let main_cst_2 : FVec F S_ .bf16 := constant S_ .bf16 0x7F80#16
  let main_v10 : FVec F S2x128x4x64 .bf16 := broadcastInDim S2x128x4x64 ![] bcast_S_S2x128x4x64 main_cst_2
  let main_v11 : IVec S2x128x4x64 1 := cmpf .olt main_v9 main_v10
  let main_c_3 : IVec S_ 1 := constantI S_ 1 1#1
  let main_v12 : IVec S_ 1 := (fun x v => Host.reduce IntOp.andi x v reducesTo_S2x128x4x64_S_d0_1_2_3 h_S_) main_v11 main_c_3
  let main_v13 : IVec S_ 1 := andi main_v8 main_v12
  main_v13
-- ==== Pre_finite_ReferenceIdeal.lean ====
abbrev S2x128x512 : Shape := ⟨3, ![2, 128, 512]⟩
abbrev S512x4096 : Shape := ⟨2, ![512, 4096]⟩
abbrev S2x128x64x64 : Shape := ⟨4, ![2, 128, 64, 64]⟩
abbrev S4096x512 : Shape := ⟨2, ![4096, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x4096 : S_.BroadcastsInDim S512x4096 (![] : Fin 0 → Fin S512x4096.rank)
  reducesTo_S512x4096_S_d0_1 : S512x4096.ReducesTo [0, 1] S_
  bcast_S_S2x128x64x64 : S_.BroadcastsInDim S2x128x64x64 (![] : Fin 0 → Fin S2x128x64x64.rank)
  reducesTo_S2x128x64x64_S_d0_1_2_3 : S2x128x64x64.ReducesTo [0, 1, 2, 3] S_

variable [Facts]

def fn {F : FTy → Type} [FloatOps F] (main_arg0 : FVec F S2x128x512 .bf16) (main_arg1 : FVec F S512x4096 .bf16) (main_arg2 : FVec F S2x128x64x64 .bf16) (main_arg3 : FVec F S2x128x64x64 .bf16) (main_arg4 : FVec F S4096x512 .bf16) : IVec S_ 1 :=
  let main_v0 : FVec F S2x128x512 .bf16 := Host.absf main_arg0
  let main_cst : FVec F S_ .bf16 := constant S_ .bf16 0x7F80#16
  let main_v1 : FVec F S2x128x512 .bf16 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x4096 .bf16 := Host.absf main_arg1
  let main_cst_0 : FVec F S_ .bf16 := constant S_ .bf16 0x7F80#16
  let main_v5 : FVec F S512x4096 .bf16 := broadcastInDim S512x4096 ![] bcast_S_S512x4096 main_cst_0
  let main_v6 : IVec S512x4096 1 := cmpf .olt main_v4 main_v5
  let main_c_1 : IVec S_ 1 := constantI S_ 1 1#1
  let main_v7 : IVec S_ 1 := (fun x v => Host.reduce IntOp.andi x v reducesTo_S512x4096_S_d0_1 h_S_) main_v6 main_c_1
  let main_v8 : IVec S_ 1 := andi main_v3 main_v7
  let main_v9 : FVec F S2x128x64x64 .bf16 := Host.absf main_arg2
  let main_cst_2 : FVec F S_ .bf16 := constant S_ .bf16 0x7F80#16
  let main_v10 : FVec F S2x128x64x64 .bf16 := broadcastInDim S2x128x64x64 ![] bcast_S_S2x128x64x64 main_cst_2
  let main_v11 : IVec S2x128x64x64 1 := cmpf .olt main_v9 main_v10
  let main_c_3 : IVec S_ 1 := constantI S_ 1 1#1
  let main_v12 : IVec S_ 1 := (fun x v => Host.reduce IntOp.andi x v reducesTo_S2x128x64x64_S_d0_1_2_3 h_S_) main_v11 main_c_3
  let main_v13 : IVec S_ 1 := andi main_v8 main_v12
  main_v13
-- ==== Kernel.lean ====
abbrev S2x128x512 : Shape := ⟨3, ![2, 128, 512]⟩
abbrev S512x4096 : Shape := ⟨2, ![512, 4096]⟩
abbrev S2x128x4x64 : Shape := ⟨4, ![2, 128, 4, 64]⟩
abbrev S4096x512 : Shape := ⟨2, ![4096, 512]⟩
abbrev S_ : Shape := ⟨0, ![]⟩
abbrev S512x256 : Shape := ⟨2, ![512, 256]⟩
abbrev S256x512 : Shape := ⟨2, ![256, 512]⟩
abbrev S2x128x256 : Shape := ⟨3, ![2, 128, 256]⟩
abbrev S16x16x512 : Shape := ⟨3, ![16, 16, 512]⟩
abbrev S16 : Shape := ⟨1, ![16]⟩
abbrev S1x128x512 : Shape := ⟨3, ![1, 128, 512]⟩
abbrev S128x512 : Shape := ⟨2, ![128, 512]⟩
abbrev S128x256 : Shape := ⟨2, ![128, 256]⟩
abbrev S1x128x256 : Shape := ⟨3, ![1, 128, 256]⟩
abbrev S128x64 : Shape := ⟨2, ![128, 64]⟩
abbrev S128x128 : Shape := ⟨2, ![128, 128]⟩
abbrev S128 : Shape := ⟨1, ![128]⟩
abbrev S128x1 : Shape := ⟨2, ![128, 1]⟩
abbrev S64x512 : Shape := ⟨2, ![64, 512]⟩
abbrev S8x16x512 : Shape := ⟨3, ![8, 16, 512]⟩
abbrev S1 : Shape := ⟨1, ![1]⟩
abbrev S1x16x512 : Shape := ⟨3, ![1, 16, 512]⟩
abbrev S15x16x512 : Shape := ⟨3, ![15, 16, 512]⟩
abbrev S16x512 : Shape := ⟨2, ![16, 512]⟩

abbrev nBuf : Space → Nat
  | .hbm => 32
  | .vmem => 8
  | .smem => 0
  | _ => 0

abbrev bufTy : (tb : Table) → Fin (tcTables nBuf tb) → BufTy
  | .hbm, ⟨0, _⟩ => ⟨S2x128x512, .bf16⟩
  | .hbm, ⟨1, _⟩ => ⟨S512x4096, .bf16⟩
  | .hbm, ⟨2, _⟩ => ⟨S2x128x4x64, .bf16⟩
  | .hbm, ⟨3, _⟩ => ⟨S2x128x4x64, .bf16⟩
  | .hbm, ⟨4, _⟩ => ⟨S4096x512, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S512x256, .bf16⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S256x512, .bf16⟩
  | .hbm, ⟨29, _⟩ => ⟨S2x128x256, .bf16⟩
  | .hbm, ⟨30, _⟩ => ⟨S2x128x256, .bf16⟩
  | .hbm, ⟨31, _⟩ => ⟨S2x128x512, .bf16⟩
  | .local _ .vmem, ⟨0, _⟩ => ⟨S2x128x512, .bf16⟩
  | .local _ .vmem, ⟨1, _⟩ => ⟨S512x256, .bf16⟩
  | .local _ .vmem, ⟨2, _⟩ => ⟨S2x128x256, .bf16⟩
  | .local _ .vmem, ⟨3, _⟩ => ⟨S2x128x256, .bf16⟩
  | .local _ .vmem, ⟨4, _⟩ => ⟨S256x512, .bf16⟩
  | .local _ .vmem, ⟨5, _⟩ => ⟨S2x128x512, .bf16⟩
  | .local _ .vmem, ⟨6, _⟩ => ⟨S16x16x512, .bf16⟩
  | .local _ .vmem, ⟨7, _⟩ => ⟨S16x16x512, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_v9 : Ref sig .tc := ⟨.hbm, 19, rfl⟩
abbrev main_c_5 : Ref sig .tc := ⟨.hbm, 20, rfl⟩
abbrev main_v10 : Ref sig .tc := ⟨.hbm, 21, rfl⟩
abbrev main_c_6 : Ref sig .tc := ⟨.hbm, 22, rfl⟩
abbrev main_v11 : Ref sig .tc := ⟨.hbm, 23, rfl⟩
abbrev main_c_7 : Ref sig .tc := ⟨.hbm, 24, rfl⟩
abbrev main_v12 : Ref sig .tc := ⟨.hbm, 25, rfl⟩
abbrev main_v13 : Ref sig .tc := ⟨.hbm, 26, rfl⟩
abbrev main_c_8 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  v14.toNat
def k0_dev2 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v15 : BitVec 32 := Scalar.addi v2 c2_i32
  let c16_i32_7 : BitVec 32 := 16#32
  let c0_i32_8 : BitVec 32 := 0#32
  let v16 : BitVec 1 := Scalar.cmpi .eq c16_i32_7 c0_i32_8
  let c1_i32_9 : BitVec 32 := 1#32
  let v17 : BitVec 32 := Scalar.select v16 c1_i32_9 c16_i32_7
  let v18 : BitVec 32 := Scalar.remsi v15 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  v25.toNat
def k0_dev3 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v26 : BitVec 32 := Scalar.addi v2 c3_i32
  let c16_i32_14 : BitVec 32 := 16#32
  let c0_i32_15 : BitVec 32 := 0#32
  let v27 : BitVec 1 := Scalar.cmpi .eq c16_i32_14 c0_i32_15
  let c1_i32_16 : BitVec 32 := 1#32
  let v28 : BitVec 32 := Scalar.select v27 c1_i32_16 c16_i32_14
  let v29 : BitVec 32 := Scalar.remsi v26 v28
  let c0_i32_18 : BitVec 32 := 0#32
  let v31 : BitVec 1 := Scalar.cmpi .slt v29 c0_i32_18
  let c0_i32_19 : BitVec 32 := 0#32
  let v32 : BitVec 1 := Scalar.cmpi .slt v28 c0_i32_19
  let v33 : BitVec 1 := Scalar.xori v31 v32
  let c0_i32_17 : BitVec 32 := 0#32
  let v30 : BitVec 1 := Scalar.cmpi .ne v29 c0_i32_17
  let v34 : BitVec 1 := Scalar.andi v33 v30
  let v35 : BitVec 32 := Scalar.addi v29 v28
  let v36 : BitVec 32 := Scalar.select v34 v35 v29
  v36.toNat
def k0_dev4 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v37 : BitVec 32 := Scalar.addi v2 c4_i32
  let c16_i32_21 : BitVec 32 := 16#32
  let c0_i32_22 : BitVec 32 := 0#32
  let v38 : BitVec 1 := Scalar.cmpi .eq c16_i32_21 c0_i32_22
  let c1_i32_23 : BitVec 32 := 1#32
  let v39 : BitVec 32 := Scalar.select v38 c1_i32_23 c16_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  v47.toNat
def k0_dev5 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v48 : BitVec 32 := Scalar.addi v2 c5_i32
  let c16_i32_28 : BitVec 32 := 16#32
  let c0_i32_29 : BitVec 32 := 0#32
  let v49 : BitVec 1 := Scalar.cmpi .eq c16_i32_28 c0_i32_29
  let c1_i32_30 : BitVec 32 := 1#32
  let v50 : BitVec 32 := Scalar.select v49 c1_i32_30 c16_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  v58.toNat
def k0_dev6 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v59 : BitVec 32 := Scalar.addi v2 c6_i32
  let c16_i32_35 : BitVec 32 := 16#32
  let c0_i32_36 : BitVec 32 := 0#32
  let v60 : BitVec 1 := Scalar.cmpi .eq c16_i32_35 c0_i32_36
  let c1_i32_37 : BitVec 32 := 1#32
  let v61 : BitVec 32 := Scalar.select v60 c1_i32_37 c16_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  v69.toNat
def k0_dev7 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v70 : BitVec 32 := Scalar.addi v2 c7_i32
  let c16_i32_42 : BitVec 32 := 16#32
  let c0_i32_43 : BitVec 32 := 0#32
  let v71 : BitVec 1 := Scalar.cmpi .eq c16_i32_42 c0_i32_43
  let c1_i32_44 : BitVec 32 := 1#32
  let v72 : BitVec 32 := Scalar.select v71 c1_i32_44 c16_i32_42
  let v73 : BitVec 32 := Scalar.remsi v70 v72
  let c0_i32_46 : BitVec 32 := 0#32
  let v75 : BitVec 1 := Scalar.cmpi .slt v73 c0_i32_46
  let c0_i32_47 : BitVec 32 := 0#32
  let v76 : BitVec 1 := Scalar.cmpi .slt v72 c0_i32_47
  let v77 : BitVec 1 := Scalar.xori v75 v76
  let c0_i32_45 : BitVec 32 := 0#32
  let v74 : BitVec 1 := Scalar.cmpi .ne v73 c0_i32_45
  let v78 : BitVec 1 := Scalar.andi v77 v74
  let v79 : BitVec 32 := Scalar.addi v73 v72
  let v80 : BitVec 32 := Scalar.select v78 v79 v73
  v80.toNat
def k0_dev8 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v81 : BitVec 32 := Scalar.addi v2 c8_i32
  let c16_i32_49 : BitVec 32 := 16#32
  let c0_i32_50 : BitVec 32 := 0#32
  let v82 : BitVec 1 := Scalar.cmpi .eq c16_i32_49 c0_i32_50
  let c1_i32_51 : BitVec 32 := 1#32
  let v83 : BitVec 32 := Scalar.select v82 c1_i32_51 c16_i32_49
  let v84 : BitVec 32 := Scalar.remsi v81 v83
  let c0_i32_53 : BitVec 32 := 0#32
  let v86 : BitVec 1 := Scalar.cmpi .slt v84 c0_i32_53
  let c0_i32_54 : BitVec 32 := 0#32
  let v87 : BitVec 1 := Scalar.cmpi .slt v83 c0_i32_54
  let v88 : BitVec 1 := Scalar.xori v86 v87
  let c0_i32_52 : BitVec 32 := 0#32
  let v85 : BitVec 1 := Scalar.cmpi .ne v84 c0_i32_52
  let v89 : BitVec 1 := Scalar.andi v88 v85
  let v90 : BitVec 32 := Scalar.addi v84 v83
  let v91 : BitVec 32 := Scalar.select v89 v90 v84
  v91.toNat
def k0_dev9 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v92 : BitVec 32 := Scalar.addi v2 c9_i32
  let c16_i32_56 : BitVec 32 := 16#32
  let c0_i32_57 : BitVec 32 := 0#32
  let v93 : BitVec 1 := Scalar.cmpi .eq c16_i32_56 c0_i32_57
  let c1_i32_58 : BitVec 32 := 1#32
  let v94 : BitVec 32 := Scalar.select v93 c1_i32_58 c16_i32_56
  let v95 : BitVec 32 := Scalar.remsi v92 v94
  let c0_i32_60 : BitVec 32 := 0#32
  let v97 : BitVec 1 := Scalar.cmpi .slt v95 c0_i32_60
  let c0_i32_61 : BitVec 32 := 0#32
  let v98 : BitVec 1 := Scalar.cmpi .slt v94 c0_i32_61
  let v99 : BitVec 1 := Scalar.xori v97 v98
  let c0_i32_59 : BitVec 32 := 0#32
  let v96 : BitVec 1 := Scalar.cmpi .ne v95 c0_i32_59
  let v100 : BitVec 1 := Scalar.andi v99 v96
  let v101 : BitVec 32 := Scalar.addi v95 v94
  let v102 : BitVec 32 := Scalar.select v100 v101 v95
  v102.toNat
def k0_dev10 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v103 : BitVec 32 := Scalar.addi v2 c10_i32
  let c16_i32_63 : BitVec 32 := 16#32
  let c0_i32_64 : BitVec 32 := 0#32
  let v104 : BitVec 1 := Scalar.cmpi .eq c16_i32_63 c0_i32_64
  let c1_i32_65 : BitVec 32 := 1#32
  let v105 : BitVec 32 := Scalar.select v104 c1_i32_65 c16_i32_63
  let v106 : BitVec 32 := Scalar.remsi v103 v105
  let c0_i32_67 : BitVec 32 := 0#32
  let v108 : BitVec 1 := Scalar.cmpi .slt v106 c0_i32_67
  let c0_i32_68 : BitVec 32 := 0#32
  let v109 : BitVec 1 := Scalar.cmpi .slt v105 c0_i32_68
  let v110 : BitVec 1 := Scalar.xori v108 v109
  let c0_i32_66 : BitVec 32 := 0#32
  let v107 : BitVec 1 := Scalar.cmpi .ne v106 c0_i32_66
  let v111 : BitVec 1 := Scalar.andi v110 v107
  let v112 : BitVec 32 := Scalar.addi v106 v105
  let v113 : BitVec 32 := Scalar.select v111 v112 v106
  v113.toNat
def k0_dev11 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v114 : BitVec 32 := Scalar.addi v2 c11_i32
  let c16_i32_70 : BitVec 32 := 16#32
  let c0_i32_71 : BitVec 32 := 0#32
  let v115 : BitVec 1 := Scalar.cmpi .eq c16_i32_70 c0_i32_71
  let c1_i32_72 : BitVec 32 := 1#32
  let v116 : BitVec 32 := Scalar.select v115 c1_i32_72 c16_i32_70
  let v117 : BitVec 32 := Scalar.remsi v114 v116
  let c0_i32_74 : BitVec 32 := 0#32
  let v119 : BitVec 1 := Scalar.cmpi .slt v117 c0_i32_74
  let c0_i32_75 : BitVec 32 := 0#32
  let v120 : BitVec 1 := Scalar.cmpi .slt v116 c0_i32_75
  let v121 : BitVec 1 := Scalar.xori v119 v120
  let c0_i32_73 : BitVec 32 := 0#32
  let v118 : BitVec 1 := Scalar.cmpi .ne v117 c0_i32_73
  let v122 : BitVec 1 := Scalar.andi v121 v118
  let v123 : BitVec 32 := Scalar.addi v117 v116
  let v124 : BitVec 32 := Scalar.select v122 v123 v117
  v124.toNat
def k0_dev12 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v125 : BitVec 32 := Scalar.addi v2 c12_i32
  let c16_i32_77 : BitVec 32 := 16#32
  let c0_i32_78 : BitVec 32 := 0#32
  let v126 : BitVec 1 := Scalar.cmpi .eq c16_i32_77 c0_i32_78
  let c1_i32_79 : BitVec 32 := 1#32
  let v127 : BitVec 32 := Scalar.select v126 c1_i32_79 c16_i32_77
  let v128 : BitVec 32 := Scalar.remsi v125 v127
  let c0_i32_81 : BitVec 32 := 0#32
  let v130 : BitVec 1 := Scalar.cmpi .slt v128 c0_i32_81
  let c0_i32_82 : BitVec 32 := 0#32
  let v131 : BitVec 1 := Scalar.cmpi .slt v127 c0_i32_82
  let v132 : BitVec 1 := Scalar.xori v130 v131
  let c0_i32_80 : BitVec 32 := 0#32
  let v129 : BitVec 1 := Scalar.cmpi .ne v128 c0_i32_80
  let v133 : BitVec 1 := Scalar.andi v132 v129
  let v134 : BitVec 32 := Scalar.addi v128 v127
  let v135 : BitVec 32 := Scalar.select v133 v134 v128
  v135.toNat
def k0_dev13 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v136 : BitVec 32 := Scalar.addi v2 c13_i32
  let c16_i32_84 : BitVec 32 := 16#32
  let c0_i32_85 : BitVec 32 := 0#32
  let v137 : BitVec 1 := Scalar.cmpi .eq c16_i32_84 c0_i32_85
  let c1_i32_86 : BitVec 32 := 1#32
  let v138 : BitVec 32 := Scalar.select v137 c1_i32_86 c16_i32_84
  let v139 : BitVec 32 := Scalar.remsi v136 v138
  let c0_i32_88 : BitVec 32 := 0#32
  let v141 : BitVec 1 := Scalar.cmpi .slt v139 c0_i32_88
  let c0_i32_89 : BitVec 32 := 0#32
  let v142 : BitVec 1 := Scalar.cmpi .slt v138 c0_i32_89
  let v143 : BitVec 1 := Scalar.xori v141 v142
  let c0_i32_87 : BitVec 32 := 0#32
  let v140 : BitVec 1 := Scalar.cmpi .ne v139 c0_i32_87
  let v144 : BitVec 1 := Scalar.andi v143 v140
  let v145 : BitVec 32 := Scalar.addi v139 v138
  let v146 : BitVec 32 := Scalar.select v144 v145 v139
  v146.toNat
def k0_dev14 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v147 : BitVec 32 := Scalar.addi v2 c14_i32
  let c16_i32_91 : BitVec 32 := 16#32
  let c0_i32_92 : BitVec 32 := 0#32
  let v148 : BitVec 1 := Scalar.cmpi .eq c16_i32_91 c0_i32_92
  let c1_i32_93 : BitVec 32 := 1#32
  let v149 : BitVec 32 := Scalar.select v148 c1_i32_93 c16_i32_91
  let v150 : BitVec 32 := Scalar.remsi v147 v149
  let c0_i32_95 : BitVec 32 := 0#32
  let v152 : BitVec 1 := Scalar.cmpi .slt v150 c0_i32_95
  let c0_i32_96 : BitVec 32 := 0#32
  let v153 : BitVec 1 := Scalar.cmpi .slt v149 c0_i32_96
  let v154 : BitVec 1 := Scalar.xori v152 v153
  let c0_i32_94 : BitVec 32 := 0#32
  let v151 : BitVec 1 := Scalar.cmpi .ne v150 c0_i32_94
  let v155 : BitVec 1 := Scalar.andi v154 v151
  let v156 : BitVec 32 := Scalar.addi v150 v149
  let v157 : BitVec 32 := Scalar.select v155 v156 v150
  v157.toNat
def k0_dev15 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v158 : BitVec 32 := Scalar.addi v2 c15_i32
  let c16_i32_98 : BitVec 32 := 16#32
  let c0_i32_99 : BitVec 32 := 0#32
  let v159 : BitVec 1 := Scalar.cmpi .eq c16_i32_98 c0_i32_99
  let c1_i32_100 : BitVec 32 := 1#32
  let v160 : BitVec 32 := Scalar.select v159 c1_i32_100 c16_i32_98
  let v161 : BitVec 32 := Scalar.remsi v158 v160
  let c0_i32_102 : BitVec 32 := 0#32
  let v163 : BitVec 1 := Scalar.cmpi .slt v161 c0_i32_102
  let c0_i32_103 : BitVec 32 := 0#32
  let v164 : BitVec 1 := Scalar.cmpi .slt v160 c0_i32_103
  let v165 : BitVec 1 := Scalar.xori v163 v164
  let c0_i32_101 : BitVec 32 := 0#32
  let v162 : BitVec 1 := Scalar.cmpi .ne v161 c0_i32_101
  let v166 : BitVec 1 := Scalar.andi v165 v162
  let v167 : BitVec 32 := Scalar.addi v161 v160
  let v168 : BitVec 32 := Scalar.select v166 v167 v161
  v168.toNat
def k0_off1 (d0 : Dev nD) (c1_i32_179 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v337 : BitVec 32 := Scalar.addi v2 c1_i32_179
  let c16_i32_180 : BitVec 32 := 16#32
  let c0_i32_181 : BitVec 32 := 0#32
  let v338 : BitVec 1 := Scalar.cmpi .eq c16_i32_180 c0_i32_181
  let c1_i32_182 : BitVec 32 := 1#32
  let v339 : BitVec 32 := Scalar.select v338 c1_i32_182 c16_i32_180
  let v340 : BitVec 32 := Scalar.remsi v337 v339
  let c0_i32_184 : BitVec 32 := 0#32
  let v342 : BitVec 1 := Scalar.cmpi .slt v340 c0_i32_184
  let c0_i32_185 : BitVec 32 := 0#32
  let v343 : BitVec 1 := Scalar.cmpi .slt v339 c0_i32_185
  let v344 : BitVec 1 := Scalar.xori v342 v343
  let c0_i32_183 : BitVec 32 := 0#32
  let v341 : BitVec 1 := Scalar.cmpi .ne v340 c0_i32_183
  let v345 : BitVec 1 := Scalar.andi v344 v341
  let v346 : BitVec 32 := Scalar.addi v340 v339
  let v347 : BitVec 32 := Scalar.select v345 v346 v340
  let c0_i32_191 : BitVec 32 := 0#32
  let c0_i32_192 : BitVec 32 := 0#32
  ![v347.toNat, 0, 0]
def k0_dev16 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_179 : BitVec 32 := 1#32
  let v337 : BitVec 32 := Scalar.addi v2 c1_i32_179
  let c16_i32_180 : BitVec 32 := 16#32
  let c0_i32_181 : BitVec 32 := 0#32
  let v338 : BitVec 1 := Scalar.cmpi .eq c16_i32_180 c0_i32_181
  let c1_i32_182 : BitVec 32 := 1#32
  let v339 : BitVec 32 := Scalar.select v338 c1_i32_182 c16_i32_180
  let v340 : BitVec 32 := Scalar.remsi v337 v339
  let c0_i32_184 : BitVec 32 := 0#32
  let v342 : BitVec 1 := Scalar.cmpi .slt v340 c0_i32_184
  let c0_i32_185 : BitVec 32 := 0#32
  let v343 : BitVec 1 := Scalar.cmpi .slt v339 c0_i32_185
  let v344 : BitVec 1 := Scalar.xori v342 v343
  let c0_i32_183 : BitVec 32 := 0#32
  let v341 : BitVec 1 := Scalar.cmpi .ne v340 c0_i32_183
  let v345 : BitVec 1 := Scalar.andi v344 v341
  let v346 : BitVec 32 := Scalar.addi v340 v339
  let v347 : BitVec 32 := Scalar.select v345 v346 v340
  v347.toNat
def k0_dev17 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_193 : BitVec 32 := 2#32
  let v354 : BitVec 32 := Scalar.addi v2 c2_i32_193
  let c16_i32_194 : BitVec 32 := 16#32
  let c0_i32_195 : BitVec 32 := 0#32
  let v355 : BitVec 1 := Scalar.cmpi .eq c16_i32_194 c0_i32_195
  let c1_i32_196 : BitVec 32 := 1#32
  let v356 : BitVec 32 := Scalar.select v355 c1_i32_196 c16_i32_194
  let v357 : BitVec 32 := Scalar.remsi v354 v356
  let c0_i32_198 : BitVec 32 := 0#32
  let v359 : BitVec 1 := Scalar.cmpi .slt v357 c0_i32_198
  let c0_i32_199 : BitVec 32 := 0#32
  let v360 : BitVec 1 := Scalar.cmpi .slt v356 c0_i32_199
  let v361 : BitVec 1 := Scalar.xori v359 v360
  let c0_i32_197 : BitVec 32 := 0#32
  let v358 : BitVec 1 := Scalar.cmpi .ne v357 c0_i32_197
  let v362 : BitVec 1 := Scalar.andi v361 v358
  let v363 : BitVec 32 := Scalar.addi v357 v356
  let v364 : BitVec 32 := Scalar.select v362 v363 v357
  v364.toNat
def k0_dev18 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_207 : BitVec 32 := 3#32
  let v371 : BitVec 32 := Scalar.addi v2 c3_i32_207
  let c16_i32_208 : BitVec 32 := 16#32
  let c0_i32_209 : BitVec 32 := 0#32
  let v372 : BitVec 1 := Scalar.cmpi .eq c16_i32_208 c0_i32_209
  let c1_i32_210 : BitVec 32 := 1#32
  let v373 : BitVec 32 := Scalar.select v372 c1_i32_210 c16_i32_208
  let v374 : BitVec 32 := Scalar.remsi v371 v373
  let c0_i32_212 : BitVec 32 := 0#32
  let v376 : BitVec 1 := Scalar.cmpi .slt v374 c0_i32_212
  let c0_i32_213 : BitVec 32 := 0#32
  let v377 : BitVec 1 := Scalar.cmpi .slt v373 c0_i32_213
  let v378 : BitVec 1 := Scalar.xori v376 v377
  let c0_i32_211 : BitVec 32 := 0#32
  let v375 : BitVec 1 := Scalar.cmpi .ne v374 c0_i32_211
  let v379 : BitVec 1 := Scalar.andi v378 v375
  let v380 : BitVec 32 := Scalar.addi v374 v373
  let v381 : BitVec 32 := Scalar.select v379 v380 v374
  v381.toNat
def k0_dev19 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_221 : BitVec 32 := 4#32
  let v388 : BitVec 32 := Scalar.addi v2 c4_i32_221
  let c16_i32_222 : BitVec 32 := 16#32
  let c0_i32_223 : BitVec 32 := 0#32
  let v389 : BitVec 1 := Scalar.cmpi .eq c16_i32_222 c0_i32_223
  let c1_i32_224 : BitVec 32 := 1#32
  let v390 : BitVec 32 := Scalar.select v389 c1_i32_224 c16_i32_222
  let v391 : BitVec 32 := Scalar.remsi v388 v390
  let c0_i32_226 : BitVec 32 := 0#32
  let v393 : BitVec 1 := Scalar.cmpi .slt v391 c0_i32_226
  let c0_i32_227 : BitVec 32 := 0#32
  let v394 : BitVec 1 := Scalar.cmpi .slt v390 c0_i32_227
  let v395 : BitVec 1 := Scalar.xori v393 v394
  let c0_i32_225 : BitVec 32 := 0#32
  let v392 : BitVec 1 := Scalar.cmpi .ne v391 c0_i32_225
  let v396 : BitVec 1 := Scalar.andi v395 v392
  let v397 : BitVec 32 := Scalar.addi v391 v390
  let v398 : BitVec 32 := Scalar.select v396 v397 v391
  v398.toNat
def k0_dev20 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_235 : BitVec 32 := 5#32
  let v405 : BitVec 32 := Scalar.addi v2 c5_i32_235
  let c16_i32_236 : BitVec 32 := 16#32
  let c0_i32_237 : BitVec 32 := 0#32
  let v406 : BitVec 1 := Scalar.cmpi .eq c16_i32_236 c0_i32_237
  let c1_i32_238 : BitVec 32 := 1#32
  let v407 : BitVec 32 := Scalar.select v406 c1_i32_238 c16_i32_236
  let v408 : BitVec 32 := Scalar.remsi v405 v407
  let c0_i32_240 : BitVec 32 := 0#32
  let v410 : BitVec 1 := Scalar.cmpi .slt v408 c0_i32_240
  let c0_i32_241 : BitVec 32 := 0#32
  let v411 : BitVec 1 := Scalar.cmpi .slt v407 c0_i32_241
  let v412 : BitVec 1 := Scalar.xori v410 v411
  let c0_i32_239 : BitVec 32 := 0#32
  let v409 : BitVec 1 := Scalar.cmpi .ne v408 c0_i32_239
  let v413 : BitVec 1 := Scalar.andi v412 v409
  let v414 : BitVec 32 := Scalar.addi v408 v407
  let v415 : BitVec 32 := Scalar.select v413 v414 v408
  v415.toNat
def k0_dev21 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_249 : BitVec 32 := 6#32
  let v422 : BitVec 32 := Scalar.addi v2 c6_i32_249
  let c16_i32_250 : BitVec 32 := 16#32
  let c0_i32_251 : BitVec 32 := 0#32
  let v423 : BitVec 1 := Scalar.cmpi .eq c16_i32_250 c0_i32_251
  let c1_i32_252 : BitVec 32 := 1#32
  let v424 : BitVec 32 := Scalar.select v423 c1_i32_252 c16_i32_250
  let v425 : BitVec 32 := Scalar.remsi v422 v424
  let c0_i32_254 : BitVec 32 := 0#32
  let v427 : BitVec 1 := Scalar.cmpi .slt v425 c0_i32_254
  let c0_i32_255 : BitVec 32 := 0#32
  let v428 : BitVec 1 := Scalar.cmpi .slt v424 c0_i32_255
  let v429 : BitVec 1 := Scalar.xori v427 v428
  let c0_i32_253 : BitVec 32 := 0#32
  let v426 : BitVec 1 := Scalar.cmpi .ne v425 c0_i32_253
  let v430 : BitVec 1 := Scalar.andi v429 v426
  let v431 : BitVec 32 := Scalar.addi v425 v424
  let v432 : BitVec 32 := Scalar.select v430 v431 v425
  v432.toNat
def k0_dev22 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_263 : BitVec 32 := 7#32
  let v439 : BitVec 32 := Scalar.addi v2 c7_i32_263
  let c16_i32_264 : BitVec 32 := 16#32
  let c0_i32_265 : BitVec 32 := 0#32
  let v440 : BitVec 1 := Scalar.cmpi .eq c16_i32_264 c0_i32_265
  let c1_i32_266 : BitVec 32 := 1#32
  let v441 : BitVec 32 := Scalar.select v440 c1_i32_266 c16_i32_264
  let v442 : BitVec 32 := Scalar.remsi v439 v441
  let c0_i32_268 : BitVec 32 := 0#32
  let v444 : BitVec 1 := Scalar.cmpi .slt v442 c0_i32_268
  let c0_i32_269 : BitVec 32 := 0#32
  let v445 : BitVec 1 := Scalar.cmpi .slt v441 c0_i32_269
  let v446 : BitVec 1 := Scalar.xori v444 v445
  let c0_i32_267 : BitVec 32 := 0#32
  let v443 : BitVec 1 := Scalar.cmpi .ne v442 c0_i32_267
  let v447 : BitVec 1 := Scalar.andi v446 v443
  let v448 : BitVec 32 := Scalar.addi v442 v441
  let v449 : BitVec 32 := Scalar.select v447 v448 v442
  v449.toNat
def k0_dev23 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_277 : BitVec 32 := 8#32
  let v456 : BitVec 32 := Scalar.addi v2 c8_i32_277
  let c16_i32_278 : BitVec 32 := 16#32
  let c0_i32_279 : BitVec 32 := 0#32
  let v457 : BitVec 1 := Scalar.cmpi .eq c16_i32_278 c0_i32_279
  let c1_i32_280 : BitVec 32 := 1#32
  let v458 : BitVec 32 := Scalar.select v457 c1_i32_280 c16_i32_278
  let v459 : BitVec 32 := Scalar.remsi v456 v458
  let c0_i32_282 : BitVec 32 := 0#32
  let v461 : BitVec 1 := Scalar.cmpi .slt v459 c0_i32_282
  let c0_i32_283 : BitVec 32 := 0#32
  let v462 : BitVec 1 := Scalar.cmpi .slt v458 c0_i32_283
  let v463 : BitVec 1 := Scalar.xori v461 v462
  let c0_i32_281 : BitVec 32 := 0#32
  let v460 : BitVec 1 := Scalar.cmpi .ne v459 c0_i32_281
  let v464 : BitVec 1 := Scalar.andi v463 v460
  let v465 : BitVec 32 := Scalar.addi v459 v458
  let v466 : BitVec 32 := Scalar.select v464 v465 v459
  v466.toNat
def k0_dev24 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_291 : BitVec 32 := 9#32
  let v473 : BitVec 32 := Scalar.addi v2 c9_i32_291
  let c16_i32_292 : BitVec 32 := 16#32
  let c0_i32_293 : BitVec 32 := 0#32
  let v474 : BitVec 1 := Scalar.cmpi .eq c16_i32_292 c0_i32_293
  let c1_i32_294 : BitVec 32 := 1#32
  let v475 : BitVec 32 := Scalar.select v474 c1_i32_294 c16_i32_292
  let v476 : BitVec 32 := Scalar.remsi v473 v475
  let c0_i32_296 : BitVec 32 := 0#32
  let v478 : BitVec 1 := Scalar.cmpi .slt v476 c0_i32_296
  let c0_i32_297 : BitVec 32 := 0#32
  let v479 : BitVec 1 := Scalar.cmpi .slt v475 c0_i32_297
  let v480 : BitVec 1 := Scalar.xori v478 v479
  let c0_i32_295 : BitVec 32 := 0#32
  let v477 : BitVec 1 := Scalar.cmpi .ne v476 c0_i32_295
  let v481 : BitVec 1 := Scalar.andi v480 v477
  let v482 : BitVec 32 := Scalar.addi v476 v475
  let v483 : BitVec 32 := Scalar.select v481 v482 v476
  v483.toNat
def k0_dev25 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_305 : BitVec 32 := 10#32
  let v490 : BitVec 32 := Scalar.addi v2 c10_i32_305
  let c16_i32_306 : BitVec 32 := 16#32
  let c0_i32_307 : BitVec 32 := 0#32
  let v491 : BitVec 1 := Scalar.cmpi .eq c16_i32_306 c0_i32_307
  let c1_i32_308 : BitVec 32 := 1#32
  let v492 : BitVec 32 := Scalar.select v491 c1_i32_308 c16_i32_306
  let v493 : BitVec 32 := Scalar.remsi v490 v492
  let c0_i32_310 : BitVec 32 := 0#32
  let v495 : BitVec 1 := Scalar.cmpi .slt v493 c0_i32_310
  let c0_i32_311 : BitVec 32 := 0#32
  let v496 : BitVec 1 := Scalar.cmpi .slt v492 c0_i32_311
  let v497 : BitVec 1 := Scalar.xori v495 v496
  let c0_i32_309 : BitVec 32 := 0#32
  let v494 : BitVec 1 := Scalar.cmpi .ne v493 c0_i32_309
  let v498 : BitVec 1 := Scalar.andi v497 v494
  let v499 : BitVec 32 := Scalar.addi v493 v492
  let v500 : BitVec 32 := Scalar.select v498 v499 v493
  v500.toNat
def k0_dev26 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_319 : BitVec 32 := 11#32
  let v507 : BitVec 32 := Scalar.addi v2 c11_i32_319
  let c16_i32_320 : BitVec 32 := 16#32
  let c0_i32_321 : BitVec 32 := 0#32
  let v508 : BitVec 1 := Scalar.cmpi .eq c16_i32_320 c0_i32_321
  let c1_i32_322 : BitVec 32 := 1#32
  let v509 : BitVec 32 := Scalar.select v508 c1_i32_322 c16_i32_320
  let v510 : BitVec 32 := Scalar.remsi v507 v509
  let c0_i32_324 : BitVec 32 := 0#32
  let v512 : BitVec 1 := Scalar.cmpi .slt v510 c0_i32_324
  let c0_i32_325 : BitVec 32 := 0#32
  let v513 : BitVec 1 := Scalar.cmpi .slt v509 c0_i32_325
  let v514 : BitVec 1 := Scalar.xori v512 v513
  let c0_i32_323 : BitVec 32 := 0#32
  let v511 : BitVec 1 := Scalar.cmpi .ne v510 c0_i32_323
  let v515 : BitVec 1 := Scalar.andi v514 v511
  let v516 : BitVec 32 := Scalar.addi v510 v509
  let v517 : BitVec 32 := Scalar.select v515 v516 v510
  v517.toNat
def k0_dev27 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_333 : BitVec 32 := 12#32
  let v524 : BitVec 32 := Scalar.addi v2 c12_i32_333
  let c16_i32_334 : BitVec 32 := 16#32
  let c0_i32_335 : BitVec 32 := 0#32
  let v525 : BitVec 1 := Scalar.cmpi .eq c16_i32_334 c0_i32_335
  let c1_i32_336 : BitVec 32 := 1#32
  let v526 : BitVec 32 := Scalar.select v525 c1_i32_336 c16_i32_334
  let v527 : BitVec 32 := Scalar.remsi v524 v526
  let c0_i32_338 : BitVec 32 := 0#32
  let v529 : BitVec 1 := Scalar.cmpi .slt v527 c0_i32_338
  let c0_i32_339 : BitVec 32 := 0#32
  let v530 : BitVec 1 := Scalar.cmpi .slt v526 c0_i32_339
  let v531 : BitVec 1 := Scalar.xori v529 v530
  let c0_i32_337 : BitVec 32 := 0#32
  let v528 : BitVec 1 := Scalar.cmpi .ne v527 c0_i32_337
  let v532 : BitVec 1 := Scalar.andi v531 v528
  let v533 : BitVec 32 := Scalar.addi v527 v526
  let v534 : BitVec 32 := Scalar.select v532 v533 v527
  v534.toNat
def k0_dev28 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_347 : BitVec 32 := 13#32
  let v541 : BitVec 32 := Scalar.addi v2 c13_i32_347
  let c16_i32_348 : BitVec 32 := 16#32
  let c0_i32_349 : BitVec 32 := 0#32
  let v542 : BitVec 1 := Scalar.cmpi .eq c16_i32_348 c0_i32_349
  let c1_i32_350 : BitVec 32 := 1#32
  let v543 : BitVec 32 := Scalar.select v542 c1_i32_350 c16_i32_348
  let v544 : BitVec 32 := Scalar.remsi v541 v543
  let c0_i32_352 : BitVec 32 := 0#32
  let v546 : BitVec 1 := Scalar.cmpi .slt v544 c0_i32_352
  let c0_i32_353 : BitVec 32 := 0#32
  let v547 : BitVec 1 := Scalar.cmpi .slt v543 c0_i32_353
  let v548 : BitVec 1 := Scalar.xori v546 v547
  let c0_i32_351 : BitVec 32 := 0#32
  let v545 : BitVec 1 := Scalar.cmpi .ne v544 c0_i32_351
  let v549 : BitVec 1 := Scalar.andi v548 v545
  let v550 : BitVec 32 := Scalar.addi v544 v543
  let v551 : BitVec 32 := Scalar.select v549 v550 v544
  v551.toNat
def k0_dev29 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_361 : BitVec 32 := 14#32
  let v558 : BitVec 32 := Scalar.addi v2 c14_i32_361
  let c16_i32_362 : BitVec 32 := 16#32
  let c0_i32_363 : BitVec 32 := 0#32
  let v559 : BitVec 1 := Scalar.cmpi .eq c16_i32_362 c0_i32_363
  let c1_i32_364 : BitVec 32 := 1#32
  let v560 : BitVec 32 := Scalar.select v559 c1_i32_364 c16_i32_362
  let v561 : BitVec 32 := Scalar.remsi v558 v560
  let c0_i32_366 : BitVec 32 := 0#32
  let v563 : BitVec 1 := Scalar.cmpi .slt v561 c0_i32_366
  let c0_i32_367 : BitVec 32 := 0#32
  let v564 : BitVec 1 := Scalar.cmpi .slt v560 c0_i32_367
  let v565 : BitVec 1 := Scalar.xori v563 v564
  let c0_i32_365 : BitVec 32 := 0#32
  let v562 : BitVec 1 := Scalar.cmpi .ne v561 c0_i32_365
  let v566 : BitVec 1 := Scalar.andi v565 v562
  let v567 : BitVec 32 := Scalar.addi v561 v560
  let v568 : BitVec 32 := Scalar.select v566 v567 v561
  v568.toNat
def k0_dev30 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_375 : BitVec 32 := 15#32
  let v575 : BitVec 32 := Scalar.addi v2 c15_i32_375
  let c16_i32_376 : BitVec 32 := 16#32
  let c0_i32_377 : BitVec 32 := 0#32
  let v576 : BitVec 1 := Scalar.cmpi .eq c16_i32_376 c0_i32_377
  let c1_i32_378 : BitVec 32 := 1#32
  let v577 : BitVec 32 := Scalar.select v576 c1_i32_378 c16_i32_376
  let v578 : BitVec 32 := Scalar.remsi v575 v577
  let c0_i32_380 : BitVec 32 := 0#32
  let v580 : BitVec 1 := Scalar.cmpi .slt v578 c0_i32_380
  let c0_i32_381 : BitVec 32 := 0#32
  let v581 : BitVec 1 := Scalar.cmpi .slt v577 c0_i32_381
  let v582 : BitVec 1 := Scalar.xori v580 v581
  let c0_i32_379 : BitVec 32 := 0#32
  let v579 : BitVec 1 := Scalar.cmpi .ne v578 c0_i32_379
  let v583 : BitVec 1 := Scalar.andi v582 v579
  let v584 : BitVec 32 := Scalar.addi v578 v577
  let v585 : BitVec 32 := Scalar.select v583 v584 v578
  v585.toNat
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v652 : Index := Scalar.indexCast v2
  let c0_509 : Index := 0#32
  let c0_510 : Index := 0#32
  ![v652.toNat, 0, 0]
def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_516 : BitVec 32 := 0#32
  let v662 : BitVec 1 := Scalar.cmpi .sgt v2 c0_i32_516
  let v663 : BitVec 32 := Scalar.extui v662
  let c0_i32_517 : BitVec 32 := 0#32
  let v664 : BitVec 1 := Scalar.cmpi .slt v2 c0_i32_517
  let v665 : BitVec 32 := Scalar.extui v664
  let v666 : BitVec 32 := Scalar.subi v663 v665
  let c8_i32_515 : BitVec 32 := 8#32
  let c0_i32_518 : BitVec 32 := 0#32
  let v667 : BitVec 1 := Scalar.cmpi .sgt c8_i32_515 c0_i32_518
  let v668 : BitVec 32 := Scalar.extui v667
  let c0_i32_519 : BitVec 32 := 0#32
  let v669 : BitVec 1 := Scalar.cmpi .slt c8_i32_515 c0_i32_519
  let v670 : BitVec 32 := Scalar.extui v669
  let v671 : BitVec 32 := Scalar.subi v668 v670
  let v672 : BitVec 1 := Scalar.cmpi .ne v666 v671
  let v673 : BitVec 32 := Scalar.remsi v2 c8_i32_515
  let c0_i32_520 : BitVec 32 := 0#32
  let v674 : BitVec 1 := Scalar.cmpi .ne v673 c0_i32_520
  let v675 : BitVec 1 := Scalar.andi v672 v674
  let v661 : BitVec 32 := Scalar.divsi v2 c8_i32_515
  let c1_i32_521 : BitVec 32 := 1#32
  let v676 : BitVec 32 := Scalar.subi v661 c1_i32_521
  let v677 : BitVec 32 := Scalar.select v675 v676 v661
  let v689 : Index := Scalar.indexCast v677
  let c8_i32_522 : BitVec 32 := 8#32
  let c0_i32_523 : BitVec 32 := 0#32
  let v678 : BitVec 1 := Scalar.cmpi .eq c8_i32_522 c0_i32_523
  let c1_i32_524 : BitVec 32 := 1#32
  let v679 : BitVec 32 := Scalar.select v678 c1_i32_524 c8_i32_522
  let v680 : BitVec 32 := Scalar.remsi v2 v679
  let c0_i32_526 : BitVec 32 := 0#32
  let v682 : BitVec 1 := Scalar.cmpi .slt v680 c0_i32_526
  let c0_i32_527 : BitVec 32 := 0#32
  let v683 : BitVec 1 := Scalar.cmpi .slt v679 c0_i32_527
  let v684 : BitVec 1 := Scalar.xori v682 v683
  let c0_i32_525 : BitVec 32 := 0#32
  let v681 : BitVec 1 := Scalar.cmpi .ne v680 c0_i32_525
  let v685 : BitVec 1 := Scalar.andi v684 v681
  let v686 : BitVec 32 := Scalar.addi v680 v679
  let v687 : BitVec 32 := Scalar.select v685 v686 v680
  let c16_i32_528 : BitVec 32 := 16#32
  let v688 : BitVec 32 := Scalar.muli v687 c16_i32_528
  let v690 : Index := Scalar.indexCast v688
  let c0_529 : Index := 0#32
  ![v689.toNat, v690.toNat, 0]
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_516 : BitVec 32 := 0#32
  let v662 : BitVec 1 := Scalar.cmpi .sgt v2 c0_i32_516
  let v663 : BitVec 32 := Scalar.extui v662
  let c0_i32_517 : BitVec 32 := 0#32
  let v664 : BitVec 1 := Scalar.cmpi .slt v2 c0_i32_517
  let v665 : BitVec 32 := Scalar.extui v664
  let v666 : BitVec 32 := Scalar.subi v663 v665
  let c8_i32_515 : BitVec 32 := 8#32
  let c0_i32_518 : BitVec 32 := 0#32
  let v667 : BitVec 1 := Scalar.cmpi .sgt c8_i32_515 c0_i32_518
  let v668 : BitVec 32 := Scalar.extui v667
  let c0_i32_519 : BitVec 32 := 0#32
  let v669 : BitVec 1 := Scalar.cmpi .slt c8_i32_515 c0_i32_519
  let v670 : BitVec 32 := Scalar.extui v669
  let v671 : BitVec 32 := Scalar.subi v668 v670
  let v672 : BitVec 1 := Scalar.cmpi .ne v666 v671
  let v673 : BitVec 32 := Scalar.remsi v2 c8_i32_515
  let c0_i32_520 : BitVec 32 := 0#32
  let v674 : BitVec 1 := Scalar.cmpi .ne v673 c0_i32_520
  let v675 : BitVec 1 := Scalar.andi v672 v674
  let v661 : BitVec 32 := Scalar.divsi v2 c8_i32_515
  let c1_i32_521 : BitVec 32 := 1#32
  let v676 : BitVec 32 := Scalar.subi v661 c1_i32_521
  let v677 : BitVec 32 := Scalar.select v675 v676 v661
  let c8_i32_522 : BitVec 32 := 8#32
  let c0_i32_523 : BitVec 32 := 0#32
  let v678 : BitVec 1 := Scalar.cmpi .eq c8_i32_522 c0_i32_523
  let c1_i32_524 : BitVec 32 := 1#32
  let v679 : BitVec 32 := Scalar.select v678 c1_i32_524 c8_i32_522
  let v680 : BitVec 32 := Scalar.remsi v2 v679
  let c0_i32_526 : BitVec 32 := 0#32
  let v682 : BitVec 1 := Scalar.cmpi .slt v680 c0_i32_526
  let c0_i32_527 : BitVec 32 := 0#32
  let v683 : BitVec 1 := Scalar.cmpi .slt v679 c0_i32_527
  let v684 : BitVec 1 := Scalar.xori v682 v683
  let c0_i32_525 : BitVec 32 := 0#32
  let v681 : BitVec 1 := Scalar.cmpi .ne v680 c0_i32_525
  let v685 : BitVec 1 := Scalar.andi v684 v681
  let v686 : BitVec 32 := Scalar.addi v680 v679
  let v687 : BitVec 32 := Scalar.select v685 v686 v680
  let c16_i32_528 : BitVec 32 := 16#32
  let v688 : BitVec 32 := Scalar.muli v687 c16_i32_528
  let c0_i32_539 : BitVec 32 := 0#32
  ![v677.toNat, v688.toNat, 0]
def k0_dev31 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_530 : BitVec 32 := 1#32
  let v692 : BitVec 32 := Scalar.addi v2 c1_i32_530
  let c16_i32_531 : BitVec 32 := 16#32
  let c0_i32_532 : BitVec 32 := 0#32
  let v693 : BitVec 1 := Scalar.cmpi .eq c16_i32_531 c0_i32_532
  let c1_i32_533 : BitVec 32 := 1#32
  let v694 : BitVec 32 := Scalar.select v693 c1_i32_533 c16_i32_531
  let v695 : BitVec 32 := Scalar.remsi v692 v694
  let c0_i32_535 : BitVec 32 := 0#32
  let v697 : BitVec 1 := Scalar.cmpi .slt v695 c0_i32_535
  let c0_i32_536 : BitVec 32 := 0#32
  let v698 : BitVec 1 := Scalar.cmpi .slt v694 c0_i32_536
  let v699 : BitVec 1 := Scalar.xori v697 v698
  let c0_i32_534 : BitVec 32 := 0#32
  let v696 : BitVec 1 := Scalar.cmpi .ne v695 c0_i32_534
  let v700 : BitVec 1 := Scalar.andi v699 v696
  let v701 : BitVec 32 := Scalar.addi v695 v694
  let v702 : BitVec 32 := Scalar.select v700 v701 v695
  v702.toNat
def k0_dev32 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_541 : BitVec 32 := 2#32
  let v709 : BitVec 32 := Scalar.addi v2 c2_i32_541
  let c16_i32_542 : BitVec 32 := 16#32
  let c0_i32_543 : BitVec 32 := 0#32
  let v710 : BitVec 1 := Scalar.cmpi .eq c16_i32_542 c0_i32_543
  let c1_i32_544 : BitVec 32 := 1#32
  let v711 : BitVec 32 := Scalar.select v710 c1_i32_544 c16_i32_542
  let v712 : BitVec 32 := Scalar.remsi v709 v711
  let c0_i32_546 : BitVec 32 := 0#32
  let v714 : BitVec 1 := Scalar.cmpi .slt v712 c0_i32_546
  let c0_i32_547 : BitVec 32 := 0#32
  let v715 : BitVec 1 := Scalar.cmpi .slt v711 c0_i32_547
  let v716 : BitVec 1 := Scalar.xori v714 v715
  let c0_i32_545 : BitVec 32 := 0#32
  let v713 : BitVec 1 := Scalar.cmpi .ne v712 c0_i32_545
  let v717 : BitVec 1 := Scalar.andi v716 v713
  let v718 : BitVec 32 := Scalar.addi v712 v711
  let v719 : BitVec 32 := Scalar.select v717 v718 v712
  v719.toNat
def k0_dev33 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_552 : BitVec 32 := 3#32
  let v726 : BitVec 32 := Scalar.addi v2 c3_i32_552
  let c16_i32_553 : BitVec 32 := 16#32
  let c0_i32_554 : BitVec 32 := 0#32
  let v727 : BitVec 1 := Scalar.cmpi .eq c16_i32_553 c0_i32_554
  let c1_i32_555 : BitVec 32 := 1#32
  let v728 : BitVec 32 := Scalar.select v727 c1_i32_555 c16_i32_553
  let v729 : BitVec 32 := Scalar.remsi v726 v728
  let c0_i32_557 : BitVec 32 := 0#32
  let v731 : BitVec 1 := Scalar.cmpi .slt v729 c0_i32_557
  let c0_i32_558 : BitVec 32 := 0#32
  let v732 : BitVec 1 := Scalar.cmpi .slt v728 c0_i32_558
  let v733 : BitVec 1 := Scalar.xori v731 v732
  let c0_i32_556 : BitVec 32 := 0#32
  let v730 : BitVec 1 := Scalar.cmpi .ne v729 c0_i32_556
  let v734 : BitVec 1 := Scalar.andi v733 v730
  let v735 : BitVec 32 := Scalar.addi v729 v728
  let v736 : BitVec 32 := Scalar.select v734 v735 v729
  v736.toNat
def k0_dev34 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_563 : BitVec 32 := 4#32
  let v743 : BitVec 32 := Scalar.addi v2 c4_i32_563
  let c16_i32_564 : BitVec 32 := 16#32
  let c0_i32_565 : BitVec 32 := 0#32
  let v744 : BitVec 1 := Scalar.cmpi .eq c16_i32_564 c0_i32_565
  let c1_i32_566 : BitVec 32 := 1#32
  let v745 : BitVec 32 := Scalar.select v744 c1_i32_566 c16_i32_564
  let v746 : BitVec 32 := Scalar.remsi v743 v745
  let c0_i32_568 : BitVec 32 := 0#32
  let v748 : BitVec 1 := Scalar.cmpi .slt v746 c0_i32_568
  let c0_i32_569 : BitVec 32 := 0#32
  let v749 : BitVec 1 := Scalar.cmpi .slt v745 c0_i32_569
  let v750 : BitVec 1 := Scalar.xori v748 v749
  let c0_i32_567 : BitVec 32 := 0#32
  let v747 : BitVec 1 := Scalar.cmpi .ne v746 c0_i32_567
  let v751 : BitVec 1 := Scalar.andi v750 v747
  let v752 : BitVec 32 := Scalar.addi v746 v745
  let v753 : BitVec 32 := Scalar.select v751 v752 v746
  v753.toNat
def k0_dev35 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_574 : BitVec 32 := 5#32
  let v760 : BitVec 32 := Scalar.addi v2 c5_i32_574
  let c16_i32_575 : BitVec 32 := 16#32
  let c0_i32_576 : BitVec 32 := 0#32
  let v761 : BitVec 1 := Scalar.cmpi .eq c16_i32_575 c0_i32_576
  let c1_i32_577 : BitVec 32 := 1#32
  let v762 : BitVec 32 := Scalar.select v761 c1_i32_577 c16_i32_575
  let v763 : BitVec 32 := Scalar.remsi v760 v762
  let c0_i32_579 : BitVec 32 := 0#32
  let v765 : BitVec 1 := Scalar.cmpi .slt v763 c0_i32_579
  let c0_i32_580 : BitVec 32 := 0#32
  let v766 : BitVec 1 := Scalar.cmpi .slt v762 c0_i32_580
  let v767 : BitVec 1 := Scalar.xori v765 v766
  let c0_i32_578 : BitVec 32 := 0#32
  let v764 : BitVec 1 := Scalar.cmpi .ne v763 c0_i32_578
  let v768 : BitVec 1 := Scalar.andi v767 v764
  let v769 : BitVec 32 := Scalar.addi v763 v762
  let v770 : BitVec 32 := Scalar.select v768 v769 v763
  v770.toNat
def k0_dev36 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_585 : BitVec 32 := 6#32
  let v777 : BitVec 32 := Scalar.addi v2 c6_i32_585
  let c16_i32_586 : BitVec 32 := 16#32
  let c0_i32_587 : BitVec 32 := 0#32
  let v778 : BitVec 1 := Scalar.cmpi .eq c16_i32_586 c0_i32_587
  let c1_i32_588 : BitVec 32 := 1#32
  let v779 : BitVec 32 := Scalar.select v778 c1_i32_588 c16_i32_586
  let v780 : BitVec 32 := Scalar.remsi v777 v779
  let c0_i32_590 : BitVec 32 := 0#32
  let v782 : BitVec 1 := Scalar.cmpi .slt v780 c0_i32_590
  let c0_i32_591 : BitVec 32 := 0#32
  let v783 : BitVec 1 := Scalar.cmpi .slt v779 c0_i32_591
  let v784 : BitVec 1 := Scalar.xori v782 v783
  let c0_i32_589 : BitVec 32 := 0#32
  let v781 : BitVec 1 := Scalar.cmpi .ne v780 c0_i32_589
  let v785 : BitVec 1 := Scalar.andi v784 v781
  let v786 : BitVec 32 := Scalar.addi v780 v779
  let v787 : BitVec 32 := Scalar.select v785 v786 v780
  v787.toNat
def k0_dev37 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_596 : BitVec 32 := 7#32
  let v794 : BitVec 32 := Scalar.addi v2 c7_i32_596
  let c16_i32_597 : BitVec 32 := 16#32
  let c0_i32_598 : BitVec 32 := 0#32
  let v795 : BitVec 1 := Scalar.cmpi .eq c16_i32_597 c0_i32_598
  let c1_i32_599 : BitVec 32 := 1#32
  let v796 : BitVec 32 := Scalar.select v795 c1_i32_599 c16_i32_597
  let v797 : BitVec 32 := Scalar.remsi v794 v796
  let c0_i32_601 : BitVec 32 := 0#32
  let v799 : BitVec 1 := Scalar.cmpi .slt v797 c0_i32_601
  let c0_i32_602 : BitVec 32 := 0#32
  let v800 : BitVec 1 := Scalar.cmpi .slt v796 c0_i32_602
  let v801 : BitVec 1 := Scalar.xori v799 v800
  let c0_i32_600 : BitVec 32 := 0#32
  let v798 : BitVec 1 := Scalar.cmpi .ne v797 c0_i32_600
  let v802 : BitVec 1 := Scalar.andi v801 v798
  let v803 : BitVec 32 := Scalar.addi v797 v796
  let v804 : BitVec 32 := Scalar.select v802 v803 v797
  v804.toNat
def k0_dev38 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_607 : BitVec 32 := 8#32
  let v811 : BitVec 32 := Scalar.addi v2 c8_i32_607
  let c16_i32_608 : BitVec 32 := 16#32
  let c0_i32_609 : BitVec 32 := 0#32
  let v812 : BitVec 1 := Scalar.cmpi .eq c16_i32_608 c0_i32_609
  let c1_i32_610 : BitVec 32 := 1#32
  let v813 : BitVec 32 := Scalar.select v812 c1_i32_610 c16_i32_608
  let v814 : BitVec 32 := Scalar.remsi v811 v813
  let c0_i32_612 : BitVec 32 := 0#32
  let v816 : BitVec 1 := Scalar.cmpi .slt v814 c0_i32_612
  let c0_i32_613 : BitVec 32 := 0#32
  let v817 : BitVec 1 := Scalar.cmpi .slt v813 c0_i32_613
  let v818 : BitVec 1 := Scalar.xori v816 v817
  let c0_i32_611 : BitVec 32 := 0#32
  let v815 : BitVec 1 := Scalar.cmpi .ne v814 c0_i32_611
  let v819 : BitVec 1 := Scalar.andi v818 v815
  let v820 : BitVec 32 := Scalar.addi v814 v813
  let v821 : BitVec 32 := Scalar.select v819 v820 v814
  v821.toNat
def k0_dev39 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_618 : BitVec 32 := 9#32
  let v828 : BitVec 32 := Scalar.addi v2 c9_i32_618
  let c16_i32_619 : BitVec 32 := 16#32
  let c0_i32_620 : BitVec 32 := 0#32
  let v829 : BitVec 1 := Scalar.cmpi .eq c16_i32_619 c0_i32_620
  let c1_i32_621 : BitVec 32 := 1#32
  let v830 : BitVec 32 := Scalar.select v829 c1_i32_621 c16_i32_619
  let v831 : BitVec 32 := Scalar.remsi v828 v830
  let c0_i32_623 : BitVec 32 := 0#32
  let v833 : BitVec 1 := Scalar.cmpi .slt v831 c0_i32_623
  let c0_i32_624 : BitVec 32 := 0#32
  let v834 : BitVec 1 := Scalar.cmpi .slt v830 c0_i32_624
  let v835 : BitVec 1 := Scalar.xori v833 v834
  let c0_i32_622 : BitVec 32 := 0#32
  let v832 : BitVec 1 := Scalar.cmpi .ne v831 c0_i32_622
  let v836 : BitVec 1 := Scalar.andi v835 v832
  let v837 : BitVec 32 := Scalar.addi v831 v830
  let v838 : BitVec 32 := Scalar.select v836 v837 v831
  v838.toNat
def k0_dev40 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_629 : BitVec 32 := 10#32
  let v845 : BitVec 32 := Scalar.addi v2 c10_i32_629
  let c16_i32_630 : BitVec 32 := 16#32
  let c0_i32_631 : BitVec 32 := 0#32
  let v846 : BitVec 1 := Scalar.cmpi .eq c16_i32_630 c0_i32_631
  let c1_i32_632 : BitVec 32 := 1#32
  let v847 : BitVec 32 := Scalar.select v846 c1_i32_632 c16_i32_630
  let v848 : BitVec 32 := Scalar.remsi v845 v847
  let c0_i32_634 : BitVec 32 := 0#32
  let v850 : BitVec 1 := Scalar.cmpi .slt v848 c0_i32_634
  let c0_i32_635 : BitVec 32 := 0#32
  let v851 : BitVec 1 := Scalar.cmpi .slt v847 c0_i32_635
  let v852 : BitVec 1 := Scalar.xori v850 v851
  let c0_i32_633 : BitVec 32 := 0#32
  let v849 : BitVec 1 := Scalar.cmpi .ne v848 c0_i32_633
  let v853 : BitVec 1 := Scalar.andi v852 v849
  let v854 : BitVec 32 := Scalar.addi v848 v847
  let v855 : BitVec 32 := Scalar.select v853 v854 v848
  v855.toNat
def k0_dev41 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_640 : BitVec 32 := 11#32
  let v862 : BitVec 32 := Scalar.addi v2 c11_i32_640
  let c16_i32_641 : BitVec 32 := 16#32
  let c0_i32_642 : BitVec 32 := 0#32
  let v863 : BitVec 1 := Scalar.cmpi .eq c16_i32_641 c0_i32_642
  let c1_i32_643 : BitVec 32 := 1#32
  let v864 : BitVec 32 := Scalar.select v863 c1_i32_643 c16_i32_641
  let v865 : BitVec 32 := Scalar.remsi v862 v864
  let c0_i32_645 : BitVec 32 := 0#32
  let v867 : BitVec 1 := Scalar.cmpi .slt v865 c0_i32_645
  let c0_i32_646 : BitVec 32 := 0#32
  let v868 : BitVec 1 := Scalar.cmpi .slt v864 c0_i32_646
  let v869 : BitVec 1 := Scalar.xori v867 v868
  let c0_i32_644 : BitVec 32 := 0#32
  let v866 : BitVec 1 := Scalar.cmpi .ne v865 c0_i32_644
  let v870 : BitVec 1 := Scalar.andi v869 v866
  let v871 : BitVec 32 := Scalar.addi v865 v864
  let v872 : BitVec 32 := Scalar.select v870 v871 v865
  v872.toNat
def k0_dev42 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_651 : BitVec 32 := 12#32
  let v879 : BitVec 32 := Scalar.addi v2 c12_i32_651
  let c16_i32_652 : BitVec 32 := 16#32
  let c0_i32_653 : BitVec 32 := 0#32
  let v880 : BitVec 1 := Scalar.cmpi .eq c16_i32_652 c0_i32_653
  let c1_i32_654 : BitVec 32 := 1#32
  let v881 : BitVec 32 := Scalar.select v880 c1_i32_654 c16_i32_652
  let v882 : BitVec 32 := Scalar.remsi v879 v881
  let c0_i32_656 : BitVec 32 := 0#32
  let v884 : BitVec 1 := Scalar.cmpi .slt v882 c0_i32_656
  let c0_i32_657 : BitVec 32 := 0#32
  let v885 : BitVec 1 := Scalar.cmpi .slt v881 c0_i32_657
  let v886 : BitVec 1 := Scalar.xori v884 v885
  let c0_i32_655 : BitVec 32 := 0#32
  let v883 : BitVec 1 := Scalar.cmpi .ne v882 c0_i32_655
  let v887 : BitVec 1 := Scalar.andi v886 v883
  let v888 : BitVec 32 := Scalar.addi v882 v881
  let v889 : BitVec 32 := Scalar.select v887 v888 v882
  v889.toNat
def k0_dev43 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_662 : BitVec 32 := 13#32
  let v896 : BitVec 32 := Scalar.addi v2 c13_i32_662
  let c16_i32_663 : BitVec 32 := 16#32
  let c0_i32_664 : BitVec 32 := 0#32
  let v897 : BitVec 1 := Scalar.cmpi .eq c16_i32_663 c0_i32_664
  let c1_i32_665 : BitVec 32 := 1#32
  let v898 : BitVec 32 := Scalar.select v897 c1_i32_665 c16_i32_663
  let v899 : BitVec 32 := Scalar.remsi v896 v898
  let c0_i32_667 : BitVec 32 := 0#32
  let v901 : BitVec 1 := Scalar.cmpi .slt v899 c0_i32_667
  let c0_i32_668 : BitVec 32 := 0#32
  let v902 : BitVec 1 := Scalar.cmpi .slt v898 c0_i32_668
  let v903 : BitVec 1 := Scalar.xori v901 v902
  let c0_i32_666 : BitVec 32 := 0#32
  let v900 : BitVec 1 := Scalar.cmpi .ne v899 c0_i32_666
  let v904 : BitVec 1 := Scalar.andi v903 v900
  let v905 : BitVec 32 := Scalar.addi v899 v898
  let v906 : BitVec 32 := Scalar.select v904 v905 v899
  v906.toNat
def k0_dev44 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_673 : BitVec 32 := 14#32
  let v913 : BitVec 32 := Scalar.addi v2 c14_i32_673
  let c16_i32_674 : BitVec 32 := 16#32
  let c0_i32_675 : BitVec 32 := 0#32
  let v914 : BitVec 1 := Scalar.cmpi .eq c16_i32_674 c0_i32_675
  let c1_i32_676 : BitVec 32 := 1#32
  let v915 : BitVec 32 := Scalar.select v914 c1_i32_676 c16_i32_674
  let v916 : BitVec 32 := Scalar.remsi v913 v915
  let c0_i32_678 : BitVec 32 := 0#32
  let v918 : BitVec 1 := Scalar.cmpi .slt v916 c0_i32_678
  let c0_i32_679 : BitVec 32 := 0#32
  let v919 : BitVec 1 := Scalar.cmpi .slt v915 c0_i32_679
  let v920 : BitVec 1 := Scalar.xori v918 v919
  let c0_i32_677 : BitVec 32 := 0#32
  let v917 : BitVec 1 := Scalar.cmpi .ne v916 c0_i32_677
  let v921 : BitVec 1 := Scalar.andi v920 v917
  let v922 : BitVec 32 := Scalar.addi v916 v915
  let v923 : BitVec 32 := Scalar.select v921 v922 v916
  v923.toNat
def k0_dev45 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_684 : BitVec 32 := 15#32
  let v930 : BitVec 32 := Scalar.addi v2 c15_i32_684
  let c16_i32_685 : BitVec 32 := 16#32
  let c0_i32_686 : BitVec 32 := 0#32
  let v931 : BitVec 1 := Scalar.cmpi .eq c16_i32_685 c0_i32_686
  let c1_i32_687 : BitVec 32 := 1#32
  let v932 : BitVec 32 := Scalar.select v931 c1_i32_687 c16_i32_685
  let v933 : BitVec 32 := Scalar.remsi v930 v932
  let c0_i32_689 : BitVec 32 := 0#32
  let v935 : BitVec 1 := Scalar.cmpi .slt v933 c0_i32_689
  let c0_i32_690 : BitVec 32 := 0#32
  let v936 : BitVec 1 := Scalar.cmpi .slt v932 c0_i32_690
  let v937 : BitVec 1 := Scalar.xori v935 v936
  let c0_i32_688 : BitVec 32 := 0#32
  let v934 : BitVec 1 := Scalar.cmpi .ne v933 c0_i32_688
  let v938 : BitVec 1 := Scalar.andi v937 v934
  let v939 : BitVec 32 := Scalar.addi v933 v932
  let v940 : BitVec 32 := Scalar.select v938 v939 v933
  v940.toNat
def k0_off5 (d0 : Dev nD) (c1_i32_696 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_695 : BitVec 32 := 16#32
  let v947 : BitVec 32 := Scalar.addi v2 c16_i32_695
  let v948 : BitVec 32 := Scalar.subi v947 c1_i32_696
  let c16_i32_697 : BitVec 32 := 16#32
  let c0_i32_698 : BitVec 32 := 0#32
  let v949 : BitVec 1 := Scalar.cmpi .eq c16_i32_697 c0_i32_698
  let c1_i32_699 : BitVec 32 := 1#32
  let v950 : BitVec 32 := Scalar.select v949 c1_i32_699 c16_i32_697
  let v951 : BitVec 32 := Scalar.remsi v948 v950
  let c0_i32_701 : BitVec 32 := 0#32
  let v953 : BitVec 1 := Scalar.cmpi .slt v951 c0_i32_701
  let c0_i32_702 : BitVec 32 := 0#32
  let v954 : BitVec 1 := Scalar.cmpi .slt v950 c0_i32_702
  let v955 : BitVec 1 := Scalar.xori v953 v954
  let c0_i32_700 : BitVec 32 := 0#32
  let v952 : BitVec 1 := Scalar.cmpi .ne v951 c0_i32_700
  let v956 : BitVec 1 := Scalar.andi v955 v952
  let v957 : BitVec 32 := Scalar.addi v951 v950
  let v958 : BitVec 32 := Scalar.select v956 v957 v951
  let c0_i32_704 : BitVec 32 := 0#32
  let v960 : BitVec 1 := Scalar.cmpi .sgt v958 c0_i32_704
  let v961 : BitVec 32 := Scalar.extui v960
  let c0_i32_705 : BitVec 32 := 0#32
  let v962 : BitVec 1 := Scalar.cmpi .slt v958 c0_i32_705
  let v963 : BitVec 32 := Scalar.extui v962
  let v964 : BitVec 32 := Scalar.subi v961 v963
  let c8_i32_703 : BitVec 32 := 8#32
  let c0_i32_706 : BitVec 32 := 0#32
  let v965 : BitVec 1 := Scalar.cmpi .sgt c8_i32_703 c0_i32_706
  let v966 : BitVec 32 := Scalar.extui v965
  let c0_i32_707 : BitVec 32 := 0#32
  let v967 : BitVec 1 := Scalar.cmpi .slt c8_i32_703 c0_i32_707
  let v968 : BitVec 32 := Scalar.extui v967
  let v969 : BitVec 32 := Scalar.subi v966 v968
  let v970 : BitVec 1 := Scalar.cmpi .ne v964 v969
  let v971 : BitVec 32 := Scalar.remsi v958 c8_i32_703
  let c0_i32_708 : BitVec 32 := 0#32
  let v972 : BitVec 1 := Scalar.cmpi .ne v971 c0_i32_708
  let v973 : BitVec 1 := Scalar.andi v970 v972
  let v959 : BitVec 32 := Scalar.divsi v958 c8_i32_703
  let c1_i32_709 : BitVec 32 := 1#32
  let v974 : BitVec 32 := Scalar.subi v959 c1_i32_709
  let v975 : BitVec 32 := Scalar.select v973 v974 v959
  let c8_i32_710 : BitVec 32 := 8#32
  let c0_i32_711 : BitVec 32 := 0#32
  let v976 : BitVec 1 := Scalar.cmpi .eq c8_i32_710 c0_i32_711
  let c1_i32_712 : BitVec 32 := 1#32
  let v977 : BitVec 32 := Scalar.select v976 c1_i32_712 c8_i32_710
  let v978 : BitVec 32 := Scalar.remsi v958 v977
  let c0_i32_714 : BitVec 32 := 0#32
  let v980 : BitVec 1 := Scalar.cmpi .slt v978 c0_i32_714
  let c0_i32_715 : BitVec 32 := 0#32
  let v981 : BitVec 1 := Scalar.cmpi .slt v977 c0_i32_715
  let v982 : BitVec 1 := Scalar.xori v980 v981
  let c0_i32_713 : BitVec 32 := 0#32
  let v979 : BitVec 1 := Scalar.cmpi .ne v978 c0_i32_713
  let v983 : BitVec 1 := Scalar.andi v982 v979
  let v984 : BitVec 32 := Scalar.addi v978 v977
  let v985 : BitVec 32 := Scalar.select v983 v984 v978
  let c16_i32_716 : BitVec 32 := 16#32
  let v986 : BitVec 32 := Scalar.muli v985 c16_i32_716
  let c0_i32_719 : BitVec 32 := 0#32
  ![v975.toNat, v986.toNat, 0]
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x4096 : Shape := ⟨2, ![512, 4096]⟩
abbrev S2x128x64x64 : Shape := ⟨4, ![2, 128, 64, 64]⟩
abbrev S4096x512 : Shape := ⟨2, ![4096, 512]⟩
abbrev S2x128x4096 : Shape := ⟨3, ![2, 128, 4096]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S2x64x128x128 : Shape := ⟨4, ![2, 64, 128, 128]⟩
abbrev S1x1x128x128 : Shape := ⟨4, ![1, 1, 128, 128]⟩
abbrev S2x64x128 : Shape := ⟨3, ![2, 64, 128]⟩
abbrev S2x64x128x1 : Shape := ⟨4, ![2, 64, 128, 1]⟩
abbrev S1x1x128x1 : Shape := ⟨4, ![1, 1, 128, 1]⟩
abbrev S2x64x64x128 : Shape := ⟨4, ![2, 64, 64, 128]⟩

abbrev nBuf : Space → Nat
  | .hbm => 73
  | .vmem => 0
  | .smem => 0
  | _ => 0

abbrev bufTy : (tb : Table) → Fin (tcTables nBuf tb) → BufTy
  | .hbm, ⟨0, _⟩ => ⟨S2x128x512, .bf16⟩
  | .hbm, ⟨1, _⟩ => ⟨S512x4096, .bf16⟩
  | .hbm, ⟨2, _⟩ => ⟨S2x128x64x64, .bf16⟩
  | .hbm, ⟨3, _⟩ => ⟨S2x128x64x64, .bf16⟩
  | .hbm, ⟨4, _⟩ => ⟨S4096x512, .bf16⟩
  | .hbm, ⟨5, _⟩ => ⟨S2x128x4096, .f32⟩
  | .hbm, ⟨6, _⟩ => ⟨S2x128x4096, .bf16⟩
  | .hbm, ⟨7, _⟩ => ⟨S2x128x64x64, .bf16⟩
  | .hbm, ⟨8, _⟩ => ⟨S128, .i32⟩
  | .hbm, ⟨9, _⟩ => ⟨S128x1, .i32⟩
  | .hbm, ⟨10, _⟩ => ⟨S128, .i32⟩
  | .hbm, ⟨11, _⟩ => ⟨S1x128, .i32⟩
  | .hbm, ⟨12, _⟩ => ⟨S128x128, .i32⟩
  | .hbm, ⟨13, _⟩ => ⟨S128x128, .i32⟩
  | .hbm, ⟨14, _⟩ => ⟨S128x128, .i32⟩
  | .hbm, ⟨15, _⟩ => ⟨S128x128, .i32⟩
  | .hbm, ⟨16, _⟩ => ⟨S_, .i32⟩
  | .hbm, ⟨17, _⟩ => ⟨S128x128, .i32⟩
  | .hbm, ⟨18, _⟩ => ⟨S128x128, .i1⟩
  | .hbm, ⟨19, _⟩ => ⟨S_, .i32⟩
  | .hbm, ⟨20, _⟩ => ⟨S1x128, .i32⟩
  | .hbm, ⟨21, _⟩ => ⟨S1x128, .i1⟩
  | .hbm, ⟨22, _⟩ => ⟨S_, .i32⟩
  | .hbm, ⟨23, _⟩ => ⟨S128x1, .i32⟩
  | .hbm, ⟨24, _⟩ => ⟨S128x1, .i1⟩
  | .hbm, ⟨25, _⟩ => ⟨S128x128, .i1⟩
  | .hbm, ⟨26, _⟩ => ⟨S128x128, .i1⟩
  | .hbm, ⟨27, _⟩ => ⟨S128x128, .i1⟩
  | .hbm, ⟨28, _⟩ => ⟨S128x128, .i1⟩
  | .hbm, ⟨29, _⟩ => ⟨S2x64x128x128, .f32⟩
  | .hbm, ⟨30, _⟩ => ⟨S2x64x128x128, .bf16⟩
  | .hbm, ⟨31, _⟩ => ⟨S2x64x128x128, .f32⟩
  | .hbm, ⟨32, _⟩ => ⟨S_, .f32⟩
  | .hbm, ⟨33, _⟩ => ⟨S2x64x128x128, .f32⟩
  | .hbm, ⟨34, _⟩ => ⟨S2x64x128x128, .f32⟩
  | .hbm, ⟨35, _⟩ => ⟨S1x1x128x128, .i1⟩
  | .hbm, ⟨36, _⟩ => ⟨S_, .f32⟩
  | .hbm, ⟨37, _⟩ => ⟨S_, .f32⟩
  | .hbm, ⟨38, _⟩ => ⟨S2x64x128x128, .i1⟩
  | .hbm, ⟨39, _⟩ => ⟨S2x64x128x128, .f32⟩
  | .hbm, ⟨40, _⟩ => ⟨S2x64x128x128, .f32⟩
  | .hbm, ⟨41, _⟩ => ⟨S_, .f32⟩
  | .hbm, ⟨42, _⟩ => ⟨S2x64x128, .f32⟩
  | .hbm, ⟨43, _⟩ => ⟨S2x64x128x1, .f32⟩
  | .hbm, ⟨44, _⟩ => ⟨S2x64x128x128, .f32⟩
  | .hbm, ⟨45, _⟩ => ⟨S2x64x128x128, .f32⟩
  | .hbm, ⟨46, _⟩ => ⟨S2x64x128x128, .f32⟩
  | .hbm, ⟨47, _⟩ => ⟨S_, .i1⟩
  | .hbm, ⟨48, _⟩ => ⟨S128, .i1⟩
  | .hbm, ⟨49, _⟩ => ⟨S1x1x128x1, .i1⟩
  | .hbm, ⟨50, _⟩ => ⟨S_, .f32⟩
  | .hbm, ⟨51, _⟩ => ⟨S2x64x128, .f32⟩
  | .hbm, ⟨52, _⟩ => ⟨S2x64x128x1, .f32⟩
  | .hbm, ⟨53, _⟩ => ⟨S_, .f32⟩
  | .hbm, ⟨54, _⟩ => ⟨S_, .f32⟩
  | .hbm, ⟨55, _⟩ => ⟨S2x64x128x1, .i1⟩
  | .hbm, ⟨56, _⟩ => ⟨S2x64x128x1, .f32⟩
  | .hbm, ⟨57, _⟩ => ⟨S2x64x128x1, .f32⟩
  | .hbm, ⟨58, _⟩ => ⟨S2x64x128x128, .f32⟩
  | .hbm, ⟨59, _⟩ => ⟨S2x64x128x128, .f32⟩
  | .hbm, ⟨60, _⟩ => ⟨S1x1x128x1, .i1⟩
  | .hbm, ⟨61, _⟩ => ⟨S_, .f32⟩
  | .hbm, ⟨62, _⟩ => ⟨S_, .f32⟩
  | .hbm, ⟨63, _⟩ => ⟨S2x64x128x128, .i1⟩
  | .hbm, ⟨64, _⟩ => ⟨S2x64x128x128, .f32⟩
  | .hbm, ⟨65, _⟩ => ⟨S2x64x128x128, .f32⟩
  | .hbm, ⟨66, _⟩ => ⟨S2x128x64x64, .f32⟩
  | .hbm, ⟨67, _⟩ => ⟨S2x64x64x128, .f32⟩
  | .hbm, ⟨68, _⟩ => ⟨S2x128x64x64, .f32⟩
  | .hbm, ⟨69, _⟩ => ⟨S2x128x4096, .f32⟩
  | .hbm, ⟨70, _⟩ => ⟨S4096x512, .f32⟩
  | .hbm, ⟨71, _⟩ => ⟨S2x128x512, .f32⟩
  | .hbm, ⟨72, _⟩ => ⟨S2x128x512, .bf16⟩
  | _, _ => ⟨S2x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_4 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩

abbrev nD : Nat := 1
abbrev τ : Topo := Topo.v7x

variable {F : FTy → Type} [FloatOps F]
-- ==== Proof.Program.lean ====
/- The kernel body as a short program: its fifteen-fold repetitions written as loops over the peers. -/
module

public import proofs.«01_k».proof.Proof.Gen.KernelIdeal
public import proofs.«01_k».proof.Proof.Gen.KernelIdeal.Skeleton
public import Idealize.ShloMosaic.Lib.Tactic

@[expose] public section

set_option maxRecDepth 65536

noncomputable section

namespace Cert.K

open Cert.KernelIdeal Cert.KernelIdeal.Gen
open Idealize.ShloMosaic Idealize.ShloMosaic.TcCoe
open Idealize.SL Idealize.SL.Sem

variable {F : FTy → Type} [FloatOps F]

/-- The device the `r`-th barrier signal addresses, as the kernel computes it. -/
def devS (d0 : Dev nD) : Fin 15 → Dev nD
  | ⟨0, _⟩ => ⟨k0_dev1 d0, k0_dev1_lt d0⟩
  | ⟨1, _⟩ => ⟨k0_dev2 d0, k0_dev2_lt d0⟩
  | ⟨2, _⟩ => ⟨k0_dev3 d0, k0_dev3_lt d0⟩
  | ⟨3, _⟩ => ⟨k0_dev4 d0, k0_dev4_lt d0⟩
  | ⟨4, _⟩ => ⟨k0_dev5 d0, k0_dev5_lt d0⟩
  | ⟨5, _⟩ => ⟨k0_dev6 d0, k0_dev6_lt d0⟩
  | ⟨6, _⟩ => ⟨k0_dev7 d0, k0_dev7_lt d0⟩
  | ⟨7, _⟩ => ⟨k0_dev8 d0, k0_dev8_lt d0⟩
  | ⟨8, _⟩ => ⟨k0_dev9 d0, k0_dev9_lt d0⟩
  | ⟨9, _⟩ => ⟨k0_dev10 d0, k0_dev10_lt d0⟩
  | ⟨10, _⟩ => ⟨k0_dev11 d0, k0_dev11_lt d0⟩
  | ⟨11, _⟩ => ⟨k0_dev12 d0, k0_dev12_lt d0⟩
  | ⟨12, _⟩ => ⟨k0_dev13 d0, k0_dev13_lt d0⟩
  | ⟨13, _⟩ => ⟨k0_dev14 d0, k0_dev14_lt d0⟩
  | ⟨14, _⟩ => ⟨k0_dev15 d0, k0_dev15_lt d0⟩

/-- The device the `r`-th transfer of the first exchange addresses. -/
def devA (d0 : Dev nD) : Fin 15 → Dev nD
  | ⟨0, _⟩ => ⟨k0_dev16 d0, k0_dev16_lt d0⟩
  | ⟨1, _⟩ => ⟨k0_dev17 d0, k0_dev17_lt d0⟩
  | ⟨2, _⟩ => ⟨k0_dev18 d0, k0_dev18_lt d0⟩
  | ⟨3, _⟩ => ⟨k0_dev19 d0, k0_dev19_lt d0⟩
  | ⟨4, _⟩ => ⟨k0_dev20 d0, k0_dev20_lt d0⟩
  | ⟨5, _⟩ => ⟨k0_dev21 d0, k0_dev21_lt d0⟩
  | ⟨6, _⟩ => ⟨k0_dev22 d0, k0_dev22_lt d0⟩
  | ⟨7, _⟩ => ⟨k0_dev23 d0, k0_dev23_lt d0⟩
  | ⟨8, _⟩ => ⟨k0_dev24 d0, k0_dev24_lt d0⟩
  | ⟨9, _⟩ => ⟨k0_dev25 d0, k0_dev25_lt d0⟩
  | ⟨10, _⟩ => ⟨k0_dev26 d0, k0_dev26_lt d0⟩
  | ⟨11, _⟩ => ⟨k0_dev27 d0, k0_dev27_lt d0⟩
  | ⟨12, _⟩ => ⟨k0_dev28 d0, k0_dev28_lt d0⟩
  | ⟨13, _⟩ => ⟨k0_dev29 d0, k0_dev29_lt d0⟩
  | ⟨14, _⟩ => ⟨k0_dev30 d0, k0_dev30_lt d0⟩

/-- The device the `r`-th transfer of the second exchange addresses. -/
def devB (d0 : Dev nD) : Fin 15 → Dev nD
  | ⟨0, _⟩ => ⟨k0_dev31 d0, k0_dev31_lt d0⟩
  | ⟨1, _⟩ => ⟨k0_dev32 d0, k0_dev32_lt d0⟩
  | ⟨2, _⟩ => ⟨k0_dev33 d0, k0_dev33_lt d0⟩
  | ⟨3, _⟩ => ⟨k0_dev34 d0, k0_dev34_lt d0⟩
  | ⟨4, _⟩ => ⟨k0_dev35 d0, k0_dev35_lt d0⟩
  | ⟨5, _⟩ => ⟨k0_dev36 d0, k0_dev36_lt d0⟩
  | ⟨6, _⟩ => ⟨k0_dev37 d0, k0_dev37_lt d0⟩
  | ⟨7, _⟩ => ⟨k0_dev38 d0, k0_dev38_lt d0⟩
  | ⟨8, _⟩ => ⟨k0_dev39 d0, k0_dev39_lt d0⟩
  | ⟨9, _⟩ => ⟨k0_dev40 d0, k0_dev40_lt d0⟩
  | ⟨10, _⟩ => ⟨k0_dev41 d0, k0_dev41_lt d0⟩
  | ⟨11, _⟩ => ⟨k0_dev42 d0, k0_dev42_lt d0⟩
  | ⟨12, _⟩ => ⟨k0_dev43 d0, k0_dev43_lt d0⟩
  | ⟨13, _⟩ => ⟨k0_dev44 d0, k0_dev44_lt d0⟩
  | ⟨14, _⟩ => ⟨k0_dev45 d0, k0_dev45_lt d0⟩

/-- `f 0`, then `f 1`, and so on. -/
def loop : (n : ℕ) → (Fin n → Prog (TpuEff nD τ sig (Elt F) Λ₀ .tc) PUnit) → Prog (TpuEff nD τ sig (Elt F) Λ₀ .tc) PUnit
  | 0, _ => pure ⟨⟩
  | n + 1, f => do
    f 0
    loop n fun r => f r.succ

theorem slot_inb : ∀ r : Fin 15, ∀ a, (![r.val + 1, 0, 0] : Fin 3 → Nat) a + S1x16x512.size a ≤ S16x16x512.size a := by decide +kernel
theorem slot_words : ∀ r : Fin 15, (Rect.unit (s := S16x16x512) ![r.val + 1, 0, 0] S1x16x512.size (slot_inb r)).WholeWords (EltTy.packing .bf16) := by decide +kernel
theorem sem_inb : ∀ r : Fin 15, ∀ a, (![r.val + 1] : Fin 1 → Nat) a + S1.size a ≤ S16.size a := by decide +kernel

/-- Entry `r + 1` of a semaphore array. -/
abbrev semAt (s : DmaSems sig S16) (r : Fin 15) : DmaSem sig :=
  ((s.slice (Rect.unit (s := S16) ![r.val + 1] S1.size (sem_inb r))).squeeze S_ squeezes_S1_S_).sem

/-- Slot `r + 1` of a sixteen-slot buffer. -/
abbrev slotOf (a : Memref sig .tc .vmem S16x16x512 .bf16) (r : Fin 15) : Memref sig .tc .vmem S1x16x512 .bf16 :=
  a.slice (Rect.unit (s := S16x16x512) ![r.val + 1, 0, 0] S1x16x512.size (slot_inb r)) (fun _ => rfl)

/-- The chunk of the accumulator the `r`-th transfer of the first exchange sends. -/
abbrev accOf (a : Memref sig .tc .vmem S16x16x512 .bf16) (d0 : Dev nD) (r : Fin 15) : Memref sig .tc .vmem S1x16x512 .bf16 :=
  a.slice (Rect.unit (s := S16x16x512) (k0_off1 d0 (BitVec.ofNat 32 (1 + r.val))) S1x16x512.size (k0_off1_inb d0 r)) (fun _ => rfl)

/-- Chunk 0 of a sixteen-slot buffer. -/
abbrev acc0 (a : Memref sig .tc .vmem S16x16x512 .bf16) : Memref sig .tc .vmem S1x16x512 .bf16 :=
  a.slice (Rect.unit (s := S16x16x512) ![0, 0, 0] S1x16x512.size inb_S16x16x512_S1x16x512_0_0_0) (fun _ => rfl)

/-- The device's own chunk of the result. -/
abbrev outMe (a : Memref sig .tc .vmem S2x128x512 .bf16) (d0 : Dev nD) : Memref sig .tc .vmem S1x16x512 .bf16 :=
  a.slice (Rect.unit (s := S2x128x512) (k0_off4 d0) S1x16x512.size (k0_off4_inb d0)) (fun _ => rfl)

/-- The chunk of the result the `r`-th wait of the second exchange names. -/
abbrev outOf (a : Memref sig .tc .vmem S2x128x512 .bf16) (d0 : Dev nD) (r : Fin 15) : Memref sig .tc .vmem S1x16x512 .bf16 :=
  a.slice (Rect.unit (s := S2x128x512) (k0_off5 d0 (BitVec.ofNat 32 (1 + r.val))) S1x16x512.size (k0_off5_inb d0 r)) (fun _ => rfl)

/-- The first chunk of the result. -/
abbrev out0 (a : Memref sig .tc .vmem S2x128x512 .bf16) : Memref sig .tc .vmem S1x16x512 .bf16 :=
  a.slice (Rect.unit (s := S2x128x512) ![0, 0, 0] S1x16x512.size inb_S2x128x512_S1x16x512_0_0_0) (fun _ => rfl)

/-- The barrier semaphore. -/
abbrev barS : Sem sig := (SemArray.scalar (sig.barrier 0 rfl) : Sems sig S_).sem

section Steps

variable {arg5 : Memref sig .tc .vmem S2x128x512 .bf16} {arg6 arg7 : Memref sig .tc .vmem S16x16x512 .bf16}

/-- Signal the `r`-th peer's barrier. -/
def sigR (d0 : Dev nD) (r : Fin 15) : Prog (TpuEff nD τ sig (Elt F) Λ₀ .tc) PUnit := semSignalWord (devS d0 r) barS 1#32

/-- Start the `r`-th transfer of the first exchange. -/
def putA (harg6 : arg6.IsWhole) (harg7 : arg7.IsWhole) (arg8 arg9 : DmaSems sig S16) (d0 : Dev nD) (r : Fin 15) : Prog (TpuEff nD τ sig (Elt F) Λ₀ .tc) PUnit :=
  Prog.lift (.enqueueDma (accOf arg6 d0 r) (.remote (Dev.tc (devA d0 r)) (slotOf arg7 r) (.dma (semAt arg8 r))) (.dma (semAt arg9 r))
    (harg6.wordExact_slice rfl _ (k0_off1_wordsbf16 d0 r)) (harg7.wordExact_slice rfl _ (slot_words r)) ⟨⟨rfl, Or.inl rfl⟩, trivial⟩)

/-- Wait for the `r`-th arrival of the first exchange. -/
def getA (harg6 : arg6.IsWhole) (harg7 : arg7.IsWhole) (arg9 : DmaSems sig S16) (r : Fin 15) : Prog (TpuEff nD τ sig (Elt F) Λ₀ .tc) PUnit :=
  Prog.lift (.waitDma2 (semAt arg9 r) (acc0 arg6) (slotOf arg7 r) (harg6.wordExact_slice rfl _ wordsbf16_S16x16x512_S1x16x512_0_0_0) (harg7.wordExact_slice rfl _ (slot_words r)))

/-- Start the `r`-th transfer of the second exchange. -/
def putB (harg5 : arg5.IsWhole) (arg10 arg11 : DmaSems sig S16) (d0 : Dev nD) (r : Fin 15) : Prog (TpuEff nD τ sig (Elt F) Λ₀ .tc) PUnit :=
  Prog.lift (.enqueueDma (outMe arg5 d0) (.remote (Dev.tc (devB d0 r)) (outMe arg5 d0) (.dma (semAt arg10 r))) (.dma (semAt arg11 r))
    (harg5.wordExact_slice rfl _ (k0_off4_wordsbf16 d0)) (harg5.wordExact_slice rfl _ (k0_off4_wordsbf16 d0)) ⟨⟨rfl, Or.inl rfl⟩, trivial⟩)

/-- Wait for the `r`-th arrival of the second exchange. -/
def getB (harg5 : arg5.IsWhole) (arg11 : DmaSems sig S16) (d0 : Dev nD) (r : Fin 15) : Prog (TpuEff nD τ sig (Elt F) Λ₀ .tc) PUnit :=
  Prog.lift (.waitDma2 (semAt arg11 r) (outMe arg5 d0) (outOf arg5 d0 r) (harg5.wordExact_slice rfl _ (k0_off4_wordsbf16 d0)) (harg5.wordExact_slice rfl _ (k0_off5_wordsbf16 d0 r)))

/-- Wait until both of the `r`-th transfers have left. -/
def sentR (harg5 : arg5.IsWhole) (harg6 : arg6.IsWhole) (harg7 : arg7.IsWhole) (arg8 arg10 : DmaSems sig S16) (d0 : Dev nD) (r : Fin 15) : Prog (TpuEff nD τ sig (Elt F) Λ₀ .tc) PUnit := do
  Prog.lift (.waitDma2 (semAt arg8 r) (slotOf arg7 r) (acc0 arg6) (harg7.wordExact_slice rfl _ (slot_words r)) (harg6.wordExact_slice rfl _ wordsbf16_S16x16x512_S1x16x512_0_0_0))
  Prog.lift (.waitDma2 (semAt arg10 r) (out0 arg5) (outMe arg5 d0) (harg5.wordExact_slice rfl _ wordsbf16_S2x128x512_S1x16x512_0_0_0) (harg5.wordExact_slice rfl _ (k0_off4_wordsbf16 d0)))

end Steps

/-- Both batches' partial products, stored into the accumulator. -/
def compute (arg0 : Memref sig .tc .vmem S2x128x512 .bf16) (harg0 : arg0.IsWhole) (arg1 : Memref sig .tc .vmem S512x256 .bf16) (harg1 : arg1.IsWhole) (arg2 : Memref sig .tc .vmem S2x128x256 .bf16) (harg2 : arg2.IsWhole) (arg3 : Memref sig .tc .vmem S2x128x256 .bf16) (harg3 : arg3.IsWhole) (arg4 : Memref sig .tc .vmem S256x512 .bf16) (harg4 : arg4.IsWhole)  (arg6 : Memref sig .tc .vmem S16x16x512 .bf16) (harg6 : arg6.IsWhole) : Prog (TpuEff nD τ sig (Elt F) Λ₀ .tc) PUnit := do
  let v169 : Vec F S512x256 .bf16 ← Prog.lift (.load arg1 (Rect.unit (s := S512x256) ![0, 0] S512x256.size inb_S512x256_S512x256_0_0).toLoadRect (View.loadsAt_vmem h_S512x256))
  let v171 : Vec F S1x128x512 .bf16 ← Prog.lift (.load arg0 (Rect.unit (s := S2x128x512) ![0, 0, 0] S1x128x512.size inb_S2x128x512_S1x128x512_0_0_0).toLoadRect (View.loadsAt_vmem h_S1x128x512))
  let v176 : Vec F S1x128x256 .bf16 ← Prog.lift (.load arg2 (Rect.unit (s := S2x128x256) ![0, 0, 0] S1x128x256.size inb_S2x128x256_S1x128x256_0_0_0).toLoadRect (View.loadsAt_vmem h_S1x128x256))
  let v178 : Vec F S1x128x256 .bf16 ← Prog.lift (.load arg3 (Rect.unit (s := S2x128x256) ![0, 0, 0] S1x128x256.size inb_S2x128x256_S1x128x256_0_0_0).toLoadRect (View.loadsAt_vmem h_S1x128x256))
  let v193 : Vec F S64x512 .bf16 ← Prog.lift (.load arg4 (Rect.unit (s := S256x512) ![0, 0] S64x512.size inb_S256x512_S64x512_0_0).toLoadRect (View.loadsAt_vmem h_S64x512))
  let v210 : Vec F S64x512 .bf16 ← Prog.lift (.load arg4 (Rect.unit (s := S256x512) ![64, 0] S64x512.size inb_S256x512_S64x512_64_0).toLoadRect (View.loadsAt_vmem h_S64x512))
  let v227 : Vec F S64x512 .bf16 ← Prog.lift (.load arg4 (Rect.unit (s := S256x512) ![128, 0] S64x512.size inb_S256x512_S64x512_128_0).toLoadRect (View.loadsAt_vmem h_S64x512))
  let v244 : Vec F S64x512 .bf16 ← Prog.lift (.load arg4 (Rect.unit (s := S256x512) ![192, 0] S64x512.size inb_S256x512_S64x512_192_0).toLoadRect (View.loadsAt_vmem h_S64x512))
  let _v251 : Vec F S8x16x512 .bf16 ← Prog.lift (.load arg6 (Rect.unit (s := S16x16x512) ![0, 0, 0] S8x16x512.size inb_S16x16x512_S8x16x512_0_0_0).toLoadRect (View.loadsAt_vmem h_S8x16x512))
  Prog.lift (.store arg6 (Rect.unit (s := S16x16x512) ![0, 0, 0] S8x16x512.size inb_S16x16x512_S8x16x512_0_0_0)
    (k0_pay11 (k0_pay9 (k0_pay2 v169 v171) (k0_pay3 v176) (k0_pay4 v178) (k0_pay5 v169 v171 v176 v178 v193) (k0_pay6 v169 v171) (k0_pay7 v176) (k0_pay8 v178) v210 v227) (k0_pay10 (k0_pay2 v169 v171) (k0_pay3 v176) (k0_pay4 v178)) v244)
    Finset.univ (View.stores_vmem h_S8x16x512 (harg6.storeExact_slice rfl _ packedbf16_S16x16x512_S8x16x512_0_0_0) (fun _ => rfl)) (.inl rfl))
  let v254 : Vec F S1x128x512 .bf16 ← Prog.lift (.load arg0 (Rect.unit (s := S2x128x512) ![1, 0, 0] S1x128x512.size inb_S2x128x512_S1x128x512_1_0_0).toLoadRect (View.loadsAt_vmem h_S1x128x512))
  let v259 : Vec F S1x128x256 .bf16 ← Prog.lift (.load arg2 (Rect.unit (s := S2x128x256) ![1, 0, 0] S1x128x256.size inb_S2x128x256_S1x128x256_1_0_0).toLoadRect (View.loadsAt_vmem h_S1x128x256))
  let v261 : Vec F S1x128x256 .bf16 ← Prog.lift (.load arg3 (Rect.unit (s := S2x128x256) ![1, 0, 0] S1x128x256.size inb_S2x128x256_S1x128x256_1_0_0).toLoadRect (View.loadsAt_vmem h_S1x128x256))
  let v276 : Vec F S64x512 .bf16 ← Prog.lift (.load arg4 (Rect.unit (s := S256x512) ![0, 0] S64x512.size inb_S256x512_S64x512_0_0).toLoadRect (View.loadsAt_vmem h_S64x512))
  let v293 : Vec F S64x512 .bf16 ← Prog.lift (.load arg4 (Rect.unit (s := S256x512) ![64, 0] S64x512.size inb_S256x512_S64x512_64_0).toLoadRect (View.loadsAt_vmem h_S64x512))
  let v310 : Vec F S64x512 .bf16 ← Prog.lift (.load arg4 (Rect.unit (s := S256x512) ![128, 0] S64x512.size inb_S256x512_S64x512_128_0).toLoadRect (View.loadsAt_vmem h_S64x512))
  let v327 : Vec F S64x512 .bf16 ← Prog.lift (.load arg4 (Rect.unit (s := S256x512) ![192, 0] S64x512.size inb_S256x512_S64x512_192_0).toLoadRect (View.loadsAt_vmem h_S64x512))
  let _v334 : Vec F S8x16x512 .bf16 ← Prog.lift (.load arg6 (Rect.unit (s := S16x16x512) ![8, 0, 0] S8x16x512.size inb_S16x16x512_S8x16x512_8_0_0).toLoadRect (View.loadsAt_vmem h_S8x16x512))
  Prog.lift (.store arg6 (Rect.unit (s := S16x16x512) ![8, 0, 0] S8x16x512.size inb_S16x16x512_S8x16x512_8_0_0)
    (k0_pay19 (k0_pay17 (k0_pay12 (k0_pay1 v169) v254) (k0_pay13 v259) (k0_pay14 v261) (k0_pay15 (k0_pay1 v169) v254 v259 v261 v276) (k0_pay16 (k0_pay1 v169) v254) v293 v310) (k0_pay18 (k0_pay12 (k0_pay1 v169) v254) (k0_pay13 v259) (k0_pay14 v261)) v327)
    Finset.univ (View.stores_vmem h_S8x16x512 (harg6.storeExact_slice rfl _ packedbf16_S16x16x512_S8x16x512_8_0_0) (fun _ => rfl)) (.inl rfl))

/-- The sum of the sixteen partial products of the device's own chunk, stored into the result. -/
def reduce (arg5 : Memref sig .tc .vmem S2x128x512 .bf16) (harg5 : arg5.IsWhole) (arg6 arg7 : Memref sig .tc .vmem S16x16x512 .bf16) (d0 : Dev nD) : Prog (TpuEff nD τ sig (Elt F) Λ₀ .tc) PUnit := do
  let v653 : Vec F S1x16x512 .bf16 ← Prog.lift (.load arg6 (Rect.unit (s := S16x16x512) (k0_off2 d0) S1x16x512.size (k0_off2_inb d0)).toLoadRect (View.loadsAt_vmem h_S1x16x512))
  let v655 : Vec F S15x16x512 .bf16 ← Prog.lift (.load arg7 (Rect.unit (s := S16x16x512) ![1, 0, 0] S15x16x512.size inb_S16x16x512_S15x16x512_1_0_0).toLoadRect (View.loadsAt_vmem h_S15x16x512))
  let _v691 : Vec F S1x16x512 .bf16 ← Prog.lift (.load arg5 (Rect.unit (s := S2x128x512) (k0_off3 d0) S1x16x512.size (k0_off3_inb d0)).toLoadRect (View.loadsAt_vmem h_S1x16x512))
  Prog.lift (.store arg5 (Rect.unit (s := S2x128x512) (k0_off3 d0) S1x16x512.size (k0_off3_inb d0)) (k0_pay20 v653 v655) Finset.univ (View.stores_vmem h_S1x16x512 (harg5.storeExact_slice rfl _ (k0_off3_packedbf16 d0)) (fun _ => rfl)) (.inl rfl))

/-- The kernel body with its repetitions as loops. -/
def prog (arg0 : Memref sig .tc .vmem S2x128x512 .bf16) (harg0 : arg0.IsWhole) (arg1 : Memref sig .tc .vmem S512x256 .bf16) (harg1 : arg1.IsWhole) (arg2 : Memref sig .tc .vmem S2x128x256 .bf16) (harg2 : arg2.IsWhole) (arg3 : Memref sig .tc .vmem S2x128x256 .bf16) (harg3 : arg3.IsWhole) (arg4 : Memref sig .tc .vmem S256x512 .bf16) (harg4 : arg4.IsWhole) (arg5 : Memref sig .tc .vmem S2x128x512 .bf16) (harg5 : arg5.IsWhole) (arg6 : Memref sig .tc .vmem S16x16x512 .bf16) (harg6 : arg6.IsWhole) (arg7 : Memref sig .tc .vmem S16x16x512 .bf16) (harg7 : arg7.IsWhole) (arg8 : DmaSems sig S16) (arg9 : DmaSems sig S16) (arg10 : DmaSems sig S16) (arg11 : DmaSems sig S16) : Prog (TpuEff nD τ sig (Elt F) Λ₀ .tc) PUnit := do
  let d0 : Dev nD ← Prog.lift .deviceId
  loop 15 (sigR d0)
  compute arg0 harg0 arg1 harg1 arg2 harg2 arg3 harg3 arg4 harg4 arg6 harg6
  semWaitWord barS 15#32
  loop 15 (putA harg6 harg7 arg8 arg9 d0)
  loop 15 (getA harg6 harg7 arg9)
  reduce arg5 harg5 arg6 arg7 d0
  loop 15 (putB harg5 arg10 arg11 d0)
  loop 15 (getB harg5 arg11 d0)
  loop 15 (sentR harg5 harg6 harg7 arg8 arg10 d0)

set_option maxHeartbeats 0 in
/-- The kernel body is that program. -/
theorem body_eq_prog : cc0_body (F := F) = prog (F := F) := rfl

end Cert.K

end
-- ==== Proof.Common.lean ====
/- The exchange's vocabulary: the peers of a device, the chunks of the three buffers, what each of them holds, the
   semaphore cells and the schedule of the payments made to them. -/
module

public import proofs.«01_k».proof.Proof.Program
public import proofs.«01_k».proof.Proof.Gen.KernelIdeal.Launch
public import proofs.«01_k».proof.Proof.Gen.KernelIdeal.Points
public import Idealize.ShloMosaic.Lib.Rounds
public import Idealize.ShloMosaic.Lib.Memref
public import Idealize.ShloMosaic.Lib.MemrefSat
public import Idealize.ShloMosaic.Lib.ValueIdxCoords

@[expose] public section

set_option maxRecDepth 16384

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Peers -/

/-- The device `r + 1` places after `c` on the ring of sixteen. -/
def peer (c : Dev nD) (r : Fin 15) : Dev nD := ⟨(c.val + (r.val + 1)) % 16, Nat.mod_lt _ (by decide)⟩
/-- The device `r + 1` places before `c`. -/
def src (c : Dev nD) (r : Fin 15) : Dev nD := ⟨(c.val + (15 - r.val)) % 16, Nat.mod_lt _ (by decide)⟩

theorem src_peer : ∀ (c : Dev nD) (r : Fin 15), src (peer c r) r = c := by decide +kernel
theorem peer_src : ∀ (c : Dev nD) (r : Fin 15), peer (src c r) r = c := by decide +kernel
theorem peer_peer_rev : ∀ (c : Dev nD) (r : Fin 15), peer (peer c r) (Fin.rev r) = c := by decide +kernel
theorem src_eq_peer_rev : ∀ (c : Dev nD) (r : Fin 15), src c r = peer c (Fin.rev r) := by decide +kernel
theorem devS_eq : ∀ (c : Dev nD) (r : Fin 15), devS c r = peer c r := by decide +kernel
theorem devA_eq : ∀ (c : Dev nD) (r : Fin 15), devA c r = peer c r := by decide +kernel
theorem devB_eq : ∀ (c : Dev nD) (r : Fin 15), devB c r = peer c r := by decide +kernel
theorem off1_eq : ∀ (c : Dev nD) (r : Fin 15), k0_off1 c (BitVec.ofNat 32 (1 + r.val)) = ![(peer c r).val, 0, 0] := by decide +kernel
theorem off4_eq : ∀ c : Dev nD, k0_off4 c = ![c.val / 8, 16 * (c.val % 8), 0] := by decide +kernel
theorem off3_eq : ∀ c : Dev nD, k0_off3 c = ![c.val / 8, 16 * (c.val % 8), 0] := by decide +kernel
theorem off5_eq : ∀ (c : Dev nD) (r : Fin 15), k0_off5 c (BitVec.ofNat 32 (1 + r.val)) = ![(src c r).val / 8, 16 * ((src c r).val % 8), 0] := by decide +kernel
theorem off2_eq : ∀ c : Dev nD, k0_off2 c = ![c.val, 0, 0] := by decide +kernel

/-- A device and its fifteen peers. -/
def around (c : Dev nD) : Fin 16 ≃ Dev nD where
  toFun i := ⟨(c.val + i.val) % 16, Nat.mod_lt _ (by decide)⟩
  invFun d := ⟨(d.val + (16 - c.val)) % 16, Nat.mod_lt _ (by decide)⟩
  left_inv := by revert c; decide +kernel
  right_inv := by revert c; decide +kernel

theorem around_zero : ∀ c : Dev nD, around c 0 = c := by decide +kernel
theorem around_succ : ∀ (c : Dev nD) (r : Fin 15), around c r.succ = peer c r := by decide +kernel

theorem bigSep_fin_succ {M : Type} [URA M] {n : ℕ} (Φ : Fin (n + 1) → sProp M) :
    bigSep Finset.univ Φ = iprop(Φ 0 ∗ bigSep Finset.univ fun r : Fin n => Φ r.succ) := by
  rw [Fin.univ_succ, Finset.cons_eq_insert, bigSep_insert (by simp), bigSep_map]; rfl

/-- A conjunction over the devices is a device's part and its peers' parts. -/
theorem bigSep_around {M : Type} [URA M] (c : Dev nD) (Φ : Dev nD → sProp M) :
    bigSep Finset.univ Φ = iprop(Φ c ∗ bigSep Finset.univ fun r : Fin 15 => Φ (peer c r)) := by
  rw [bigSep_univ_equiv (around c) Φ, bigSep_fin_succ, around_zero]
  simp only [around_succ]

theorem bigSep_rev {M : Type} [URA M] (Φ : Fin 15 → sProp M) :
    bigSep Finset.univ (fun r : Fin 15 => Φ (Fin.rev r)) = bigSep Finset.univ Φ := by
  exact (bigSep_univ_equiv Fin.revPerm Φ).symm

/-! ## Chunks -/

theorem acc_inb : ∀ s : Dev nD, ∀ a, (![s.val, 0, 0] : Fin 3 → Nat) a + S1x16x512.size a ≤ S16x16x512.size a := by decide +kernel
theorem out_inb : ∀ s : Dev nD, ∀ a, (![s.val / 8, 16 * (s.val % 8), 0] : Fin 3 → Nat) a + S1x16x512.size a ≤ S2x128x512.size a := by decide +kernel

/-- Chunk `s` of a sixteen-chunk buffer. -/
abbrev accRect (s : Dev nD) : Rect S16x16x512 := Rect.unit ![s.val, 0, 0] S1x16x512.size (acc_inb s)
/-- Chunk `s` of the result: rows `16 (s % 8)` to `16 (s % 8) + 15` of batch `s / 8`. -/
abbrev outRect (s : Dev nD) : Rect S2x128x512 := Rect.unit ![s.val / 8, 16 * (s.val % 8), 0] S1x16x512.size (out_inb s)
abbrev slotRect (r : Fin 15) : Rect S16x16x512 := Rect.unit ![r.val + 1, 0, 0] S1x16x512.size (slot_inb r)

abbrev accM : Memref sig .tc .vmem S16x16x512 .bf16 := Memref.whole cc0_scratch0
abbrev rsM : Memref sig .tc .vmem S16x16x512 .bf16 := Memref.whole cc0_scratch1
abbrev outM : Memref sig .tc .vmem S2x128x512 .bf16 := win0_5.stage (cfg0.slots t0_0 5)

abbrev accCh (s : Dev nD) : Memref sig .tc .vmem S1x16x512 .bf16 := accM.slice (accRect s) (fun _ => rfl)
abbrev rsCh (r : Fin 15) : Memref sig .tc .vmem S1x16x512 .bf16 := slotOf rsM r
abbrev outCh (s : Dev nD) : Memref sig .tc .vmem S1x16x512 .bf16 := outM.slice (outRect s) (fun _ => rfl)

abbrev Chunk (F : FTy → Type) : Type := S1x16x512.Idx → Elt F .bf16
abbrev Acc (F : FTy → Type) : Type := S16x16x512.Idx → Elt F .bf16

/-! ## Contents, from what every device's accumulator holds -/

variable (A : Dev nD → Acc F)

/-- Chunk `s` of device `c`'s accumulator. -/
def part (c s : Dev nD) : Chunk F := fun j => A c ((accRect s).emb j)

/-- The fifteen partial products device `c` receives, in the order of its slots. -/
def gath (c : Dev nD) : S15x16x512.Idx → Elt F .bf16 :=
  fun j => part A (src c (j 0)) c (ValueIdx.ix3 (n0 := 1) (n1 := 16) (n2 := 512) 0 (j 1) (j 2))

/-- Device `c`'s chunk of the result: its own partial product and the fifteen received ones, summed. -/
def red (c : Dev nD) : Chunk F := k0_pay20 (part A c c) (gath A c)

/-- The whole result. -/
def outv : S2x128x512.Idx → Elt F .bf16 := fun i =>
  red A ⟨(8 * (i 0).val + (i 1).val / 16) % 16, Nat.mod_lt _ (by decide)⟩
    (ValueIdx.ix3 (n0 := 1) (n1 := 16) (n2 := 512) 0 ⟨(i 1).val % 16, Nat.mod_lt _ (by decide)⟩ (i 2))

theorem outv_chunk (s : Dev nD) : (fun j => outv A ((outRect s).emb j)) = red A s := by
  funext j
  obtain ⟨j0, j1, j2, rfl⟩ : ∃ (a : Fin 1) (b : Fin 16) (d : Fin 512), j = ValueIdx.ix3 a b d := ⟨j 0, j 1, j 2, ValueIdx.eq_ix3 j⟩
  obtain rfl := Subsingleton.elim j0 0
  have h0 : ((outRect s).emb (ValueIdx.ix3 0 j1 j2) 0).val = s.val / 8 := by
    show s.val / 8 + 1 * 0 = _; omega
  have h1 : ((outRect s).emb (ValueIdx.ix3 0 j1 j2) 1).val = 16 * (s.val % 8) + j1.val := by
    show 16 * (s.val % 8) + 1 * j1.val = _; omega
  have h2 : ((outRect s).emb (ValueIdx.ix3 0 j1 j2) 2) = j2 := by
    apply Fin.ext; show 0 + 1 * j2.val = _; omega
  have hs : s.val < 16 := s.isLt
  have hj := j1.isLt
  unfold outv
  rw [h2]
  congr 1
  · congr 1; show (8 * _ + _ / 16) % 16 = _
    rw [h0, h1]; omega
  · congr 1
    apply Fin.ext; show _ % 16 = _
    rw [h1]; omega

end Cert.K

end
-- ==== Proof.Sched.lean ====
/- The schedule of the payments between the devices, what a device owes at the start, and the levels of its waits. -/
module

public import proofs.«01_k».proof.Proof.Common

@[expose] public section

set_option maxRecDepth 16384

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The pipeline's ghost state beside the exchange's: a payment is named by the peer's place, one of fifteen. -/
abbrev UU : Type := UR sig nD τ × URounds (GSem nD τ sig) (Fin 15)

local notation "𝕄" => MT nD τ sig Unit (Elt F) ℕ UU ℕ

abbrev EP : Emb (UR sig nD τ) (MT nD τ sig Unit (Elt F) ℕ UU ℕ) := embL
abbrev ER : Emb (URounds (GSem nD τ sig) (Fin 15)) (MT nD τ sig Unit (Elt F) ℕ UU ℕ) := embR

/-! ## Cells -/

/-- Entry `r + 1` of the `a`-th semaphore array: 0 and 1 the first exchange's departures and arrivals, 2 and 3 the second's. -/
def dsem : Fin 4 → Fin 15 → DmaSem sig
  | 0 => semAt cc0_scratch2
  | 1 => semAt cc0_scratch3
  | 2 => semAt cc0_scratch4
  | 3 => semAt cc0_scratch5

/-- Which entry of which array a semaphore is. -/
def codeOf (s : DmaSem sig) : Option (Fin 4 × Fin 15) :=
  if h : 6 ≤ s.val ∧ (s.val - 6) % 16 ≠ 0 ∧ (s.val - 6) / 16 < 4 then
    some (⟨(s.val - 6) / 16, h.2.2⟩, ⟨(s.val - 6) % 16 - 1, by have := Nat.mod_lt (s.val - 6) (show 16 > 0 by decide); omega⟩)
  else none

theorem codeOf_dsem : ∀ (a : Fin 4) (r : Fin 15), codeOf (dsem a r) = some (a, r) := by decide +kernel

def code : SemLoc sig → Option (Fin 4 × Fin 15)
  | .reg _ => none
  | .dma s => codeOf s

theorem code_dsem (a : Fin 4) (r : Fin 15) : code (.dma (dsem a r)) = some (a, r) := codeOf_dsem a r

abbrev barCell (c : Dev nD) : GSem nD τ sig := ((c : Thread nD τ), .reg barS)
abbrev dCell (a : Fin 4) (c : Dev nD) (r : Fin 15) : GSem nD τ sig := ((c : Thread nD τ), .dma (dsem a r))

theorem dsem_ne_bar (a : Fin 4) (r : Fin 15) : (SemLoc.dma (dsem a r) : SemLoc sig) ≠ .reg barS := fun h => by cases h

/-- The units one chunk's transfer pays. -/
abbrev N : ℕ := (accCh 0).view.dmaCredit
theorem N_pos : 0 < N := View.dmaCredit_pos _ (by decide)

/-! ## Payments -/

/-- The share of a device's own chunk left before the `k`-th transfer of the second exchange. -/
def rest : ℕ → PosShare TreeShare
  | 0 => fullShare
  | k + 1 => (rest k).right

variable (A : Dev nD → Acc F)

/-- Paid to `c`'s barrier by its peer at place `r`: the peer's landing places for both of `c`'s transfers to it. -/
def barPay (c : Dev nD) (r : Fin 15) : sProp 𝕄 :=
  iprop((∃ X, owns (peer c r : Thread nD τ) (rsCh r) fullShare X) ∗ (∃ X, owns (peer c r : Thread nD τ) (outCh c) fullShare X)
    ∗ reached ER (dCell 1 (peer c r) r) 0 ∗ reached ER (dCell 3 (peer c r) r) 0)

/-- Paid by a transfer: at its departure the source back, at its arrival the landing place filled. -/
def dmaPay (c : Dev nD) : Fin 4 → Fin 15 → sProp 𝕄
  | 0, r => owns (c : Thread nD τ) (accCh (peer c r)) fullShare (part A c (peer c r))
  | 1, r => owns (c : Thread nD τ) (rsCh r) fullShare (part A (src c r) c)
  | 2, r => owns (c : Thread nD τ) (outCh c) (rest r.val).left (red A c)
  | 3, r => owns (c : Thread nD τ) (outCh (src c r)) fullShare (red A (src c r))

instance dmaPay_storable (c : Dev nD) (a : Fin 4) (r : Fin 15) : BI.Storable (upEmb : UEmb _ 𝕄) (dmaPay A c a r) := by
  match a with
  | 0 => unfold dmaPay; infer_instance
  | 1 => unfold dmaPay; infer_instance
  | 2 => unfold dmaPay; infer_instance
  | 3 => unfold dmaPay; infer_instance

instance barPay_storable (c : Dev nD) (r : Fin 15) : BI.Storable (upEmb : UEmb _ 𝕄) (barPay (F := F) c r) := by
  unfold barPay; infer_instance

/-- One round: fifteen payments of one unit to every barrier, one payment of a chunk to every other cell. -/
def Rd : Rounds.Schedule (GSem nD τ sig) (Fin 15) 𝕄 where
  duties g r := if r = 0 ∧ g.1.2 = .tc then (if g.2 = .reg barS then Finset.univ else if code g.2 = none then ∅ else {0}) else ∅
  unitless _ := False
  amount g _ _ := if g.2 = .reg barS then 1 else N
  payload g _ d :=
    if g.2 = .reg barS then barPay g.1.1 d
    else match code g.2 with
      | some (a, r) => dmaPay A g.1.1 a r
      | none => iprop(emp)
  amount_pos g _ _ _ := by
    by_cases h : g.2 = .reg barS
    · rw [if_pos h]; exact Nat.one_pos
    · rw [if_neg h]; exact N_pos

instance Rd_payload_storable (g : GSem nD τ sig) (r : ℕ) (d : Fin 15) : BI.Storable (upEmb : UEmb _ 𝕄) ((Rd A).payload g r d) := by
  dsimp only [Rd]
  (repeat' split) <;> infer_instance

section Sched

variable (c : Dev nD) (a : Fin 4) (r : Fin 15)

theorem duties_bar : (Rd A).duties (barCell c) 0 = Finset.univ := by
  dsimp only [Rd]; rw [if_pos ⟨rfl, rfl⟩, if_pos rfl]
theorem duties_dma : (Rd A).duties (dCell a c r) 0 = {0} := by
  dsimp only [Rd]; rw [if_pos ⟨rfl, rfl⟩, if_neg (dsem_ne_bar a r), code_dsem, if_neg (by simp)]
theorem duties_later (g : GSem nD τ sig) : ∀ k, 1 ≤ k → (Rd A).duties g k = ∅ :=
  fun k hk => by dsimp only [Rd]; rw [if_neg (fun h => by omega)]
theorem amount_bar (d : Fin 15) : (Rd A).amount (barCell c) 0 d = 1 := by dsimp only [Rd]; exact if_pos rfl
theorem amount_dma (d : Fin 15) : (Rd A).amount (dCell a c r) 0 d = N := by dsimp only [Rd]; exact if_neg (dsem_ne_bar a r)
theorem expect_bar : (Rd A).expect (barCell c) 0 = 15 := by
  unfold Schedule.expect Schedule.amountOf; rw [duties_bar, Finset.sum_congr rfl (fun d _ => amount_bar A c d)]; rfl
theorem expect_dma : (Rd A).expect (dCell a c r) 0 = N := by
  unfold Schedule.expect Schedule.amountOf; rw [duties_dma, Finset.sum_singleton, amount_dma]
theorem payload_bar (d : Fin 15) : (Rd A).payload (barCell c) 0 d = barPay c d := by dsimp only [Rd]; exact if_pos rfl
theorem payload_dma (d : Fin 15) : (Rd A).payload (dCell a c r) 0 d = dmaPay A c a r := by
  dsimp only [Rd]; rw [if_neg (dsem_ne_bar a r), code_dsem]
theorem rest_bar : bigSep ((Rd A).duties (barCell c) 0 \ ∅) (fun d => (Rd A).payload (barCell c) 0 d) = bigSep Finset.univ fun d => barPay (F := F) c d := by
  rw [Finset.sdiff_empty, duties_bar]; simp only [payload_bar]
theorem rest_dma : bigSep ((Rd A).duties (dCell a c r) 0 \ ∅) (fun d => (Rd A).payload (dCell a c r) 0 d) = dmaPay A c a r := by
  rw [Finset.sdiff_empty, duties_dma, bigSep_singleton, payload_dma]

theorem close (κ : ℕ) (g : GSem nD τ sig) :
    iprop(cellInv ER (Rd A) κ g ∗ atPos ER g (0 + 1) ∅ 0) ⊢ (|={Set.univ}=> semVal g 0 : sProp 𝕄) :=
  Rounds.cell_close ER (Rd A) (Set.mem_univ κ) id (duties_later A g)

end Sched

/-! ## What is owed, and the levels -/

/-- The barrier units still to be paid to the peers from place `i` on. -/
def oweBar (c : Dev nD) (i : ℕ) : CellTallies nD τ sig Unit := ∑ r : Fin 15, if i ≤ r.val then tallyAt (barCell (peer c r)) () 1 else 0
/-- The arrivals (of exchange `a`) still to be paid to the peers from place `i` on. -/
def oweDma (a : Fin 4) (c : Dev nD) (i : ℕ) : CellTallies nD τ sig Unit := ∑ r : Fin 15, if i ≤ r.val then tallyAt (dCell a (peer c r) r) () N else 0

/-- A device owes each peer one barrier unit and two chunks. -/
def O₀ (c : Dev nD) : CellTallies nD τ sig Unit := oweDma 3 c 0 + oweDma 1 c 0 + oweBar c 0

theorem sum_from_succ {M : Type} [AddCommMonoid M] (f : Fin 15 → M) (r : Fin 15) :
    (∑ k : Fin 15, if r.val ≤ k.val then f k else 0) = (∑ k : Fin 15, if r.val + 1 ≤ k.val then f k else 0) + f r := by
  rw [← Finset.sum_filter, ← Finset.sum_filter,
    show Finset.univ.filter (fun k : Fin 15 => r.val ≤ k.val) = insert r (Finset.univ.filter fun k : Fin 15 => r.val + 1 ≤ k.val) from by
      ext k; simp only [Finset.mem_filter, Finset.mem_univ, true_and, Finset.mem_insert, Fin.ext_iff]; omega,
    Finset.sum_insert (by simp), add_comm]

theorem oweBar_step (c : Dev nD) (r : Fin 15) : oweBar c r.val = oweBar c (r.val + 1) + tallyAt (barCell (peer c r)) () 1 :=
  sum_from_succ _ r
theorem oweDma_step (a : Fin 4) (c : Dev nD) (r : Fin 15) : oweDma a c r.val = oweDma a c (r.val + 1) + tallyAt (dCell a (peer c r) r) () N :=
  sum_from_succ _ r
theorem oweBar_end (c : Dev nD) : oweBar c 15 = 0 := Finset.sum_eq_zero fun r _ => if_neg (by omega)
theorem oweDma_end (a : Fin 4) (c : Dev nD) : oweDma a c 15 = 0 := Finset.sum_eq_zero fun r _ => if_neg (by omega)

def L (g : GSem nD τ sig) : Finset Unit := if g.1.2 = .tc then {()} else ∅
/-- Barriers at 1, the first exchange's arrivals at 2, the second's at 3, departures at 0. -/
def lv (g : GSem nD τ sig) (_ : Unit) : ℕ :=
  if g.2 = .reg barS then 1 else match code g.2 with
    | some (1, _) => 2
    | some (3, _) => 3
    | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by dsimp only [lv]; exact if_pos rfl
theorem lv_dma (a : Fin 4) (c : Dev nD) (r : Fin 15) : lv (dCell a c r) () = match a with | 1 => 2 | 3 => 3 | _ => 0 := by
  dsimp only [lv]; rw [if_neg (dsem_ne_bar a r), code_dsem]
  fin_cases a <;> rfl

theorem oweDma_pos {a : Fin 4} {c : Dev nD} {i : ℕ} {g : GSem nD τ sig} {u : Unit} (h : 0 < oweDma a c i g u) : ∃ r, g = dCell a (peer c r) r := by
  by_contra hn
  push Not at hn
  have : oweDma a c i g u = 0 := by
    unfold oweDma
    rw [Finset.sum_apply, Finsupp.finset_sum_apply]
    refine Finset.sum_eq_zero fun r _ => ?_
    split
    · rw [tallyAt_apply, if_neg (fun h => hn r h.1)]
    · rfl
  omega

/-- A wait at a level below everything owed is allowed. -/
theorem mayWait_owing (c : Dev nD) (sm : SemLoc sig) (n : ℕ) (hn : lv ((c : Thread nD τ), sm) () = n) (O : CellTallies nD τ sig Unit)
    (hO : ∀ g u, 0 < O g u → ∃ a r d, g = dCell a d r ∧ n < lv g ()) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨a, r, d, rfl, -⟩ := hO g u hg; rw [L_tc]; exact Finset.mem_singleton_self _)
    (fun p hp => by rw [Finset.mem_singleton.mp hp, hn])
    (fun g u hg => by obtain ⟨a, r, d, -, h⟩ := hO g u hg; exact h)

theorem mayWait_bar (c : Dev nD) : (levAts L lv : sProp 𝕄) ⊢ MayWait (c : Thread nD τ) (.reg barS) () (oweDma 3 c 0 + oweDma 1 c 0) :=
  mayWait_owing c _ 1 (lv_bar c) _ fun g u h => by
    rcases Nat.add_pos_iff_pos_or_pos.mp (show 0 < oweDma 3 c 0 g u + oweDma 1 c 0 g u from h) with h | h
    · obtain ⟨r, rfl⟩ := oweDma_pos h; exact ⟨_, _, _, rfl, by rw [lv_dma]; decide⟩
    · obtain ⟨r, rfl⟩ := oweDma_pos h; exact ⟨_, _, _, rfl, by rw [lv_dma]; decide⟩

theorem mayWait_recvA (c : Dev nD) (r : Fin 15) : (levAts L lv : sProp 𝕄) ⊢ MayWait (c : Thread nD τ) (.dma (dsem 1 r)) () (oweDma 3 c 0) :=
  mayWait_owing c _ 2 (lv_dma 1 c r) _ fun g u h => by
    obtain ⟨k, rfl⟩ := oweDma_pos h; exact ⟨_, _, _, rfl, by rw [lv_dma]; decide⟩

end Cert.K

end
-- ==== Proof.Steps.lean ====
/- The steps of the exchange: one peer's share of each loop, and the loops. -/
module

public import proofs.«01_k».proof.Proof.Sched

@[expose] public section

set_option maxRecDepth 16384

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Running `p` on device `c`. -/
abbrev run (c : Dev nD) (p : Prog (TpuEff nD τ sig (Elt F) Λ₀ .tc) PUnit) (Q : PUnit → sProp 𝕄) : sProp 𝕄 :=
  wp frame (wpE (defs₀ (F := F)) 𝒱₀ (c : Thread nD τ) none) Set.univ p Q

/-- A loop, from its step: what each turn needs and leaves, and the state it carries. -/
theorem run_loop (c : Dev nD) : ∀ (n : ℕ) (f : Fin n → Prog (TpuEff nD τ sig (Elt F) Λ₀ .tc) PUnit) (Pre Post : Fin n → sProp 𝕄) (S : ℕ → sProp 𝕄)
    (_ : ∀ r Q, iprop(Pre r ∗ S r.val ∗ (iprop(Post r ∗ S (r.val + 1)) -∗ Q ⟨⟩)) ⊢ run c (f r) Q) (Q : PUnit → sProp 𝕄),
    iprop(bigSep Finset.univ Pre ∗ S 0 ∗ (iprop(bigSep Finset.univ Post ∗ S n) -∗ Q ⟨⟩)) ⊢ run c (loop n f) Q
  | 0, f, Pre, Post, S, h, Q => by
    show _ ⊢ wp _ _ _ (.ret ⟨⟩) Q
    rw [wp_ret, Finset.univ_eq_empty, bigSep_empty, bigSep_empty]
    iintro ⟨-, HS, HQ⟩
    imodintro
    iapply HQ
    isplitr; · iempintro
    iexact HS
  | n + 1, f, Pre, Post, S, h, Q => by
    show _ ⊢ wp _ _ _ (f 0 >>= fun _ => loop n fun r => f r.succ) Q
    rw [wp_bind, bigSep_fin_succ, bigSep_fin_succ]
    iintro ⟨⟨H0, HP⟩, HS, HQ⟩
    have h0 : ∀ Q, iprop(Pre 0 ∗ S 0 ∗ (iprop(Post 0 ∗ S (0 + 1)) -∗ Q ⟨⟩)) ⊢ run c (f 0) Q := h 0
    iapply (h0 _)
    isplitl [H0]; · iexact H0
    isplitl [HS]; · iexact HS
    iintro ⟨H0, HS⟩
    iapply (run_loop c n (fun r => f r.succ) (fun r => Pre r.succ) (fun r => Post r.succ) (fun i => S (i + 1)) (fun r Q => h r.succ Q) Q)
    isplitl [HP]; · iexact HP
    isplitl [HS]; · iexact HS
    iintro ⟨HP, HS⟩
    iapply HQ
    isplitr [HS]
    · isplitl [H0] <;> iassumption
    · iexact HS

/-! ## Loads and stores of what is owned -/

theorem run_load (c : Dev nD) {s : Shape} {e : EltTy} {m : Memref sig .tc .vmem s e} {r : Rect s} {hl : m.view.LoadsAt r.toLoadRect} (hr : ∀ a, r.stride a = 1)
    {q : PosShare TreeShare} {X : r.shape.Idx → Elt F e} {Q : (r.shape.Idx → Elt F e) → sProp 𝕄} :
    iprop(owns (c : Thread nD τ) (m.slice r hr) q X ∗ (owns (c : Thread nD τ) (m.slice r hr) q X -∗ Q X))
      ⊢ wp frame (wpE (defs₀ (F := F)) 𝒱₀ (c : Thread nD τ) none) Set.univ (Prog.lift (.load m r.toLoadRect hl)) Q := by
  unfold Prog.lift
  iintro ⟨H, HQ⟩
  unfold owns
  icases H with ⟨%f, %hf, H⟩
  iapply (wp_load_rect 𝒱₀ (c : Thread nD τ) none Set.univ (m := m) (r := r) (S := (m.slice r hr).view.set) (q := q) (f := f) (subset_refl _)) $$ [H]
  · iexact H
  iintro H
  rw [show (m.access r).read (Elt F) f = X from hf, wp_ret]
  imodintro
  iapply HQ
  iexists f
  isplitr; · ipureintro; exact hf
  iexact H

theorem run_load_of (c : Dev nD) {s : Shape} {e : EltTy} {m : Memref sig .tc .vmem s e} {r : Rect s} {hl : m.view.LoadsAt r.toLoadRect}
    {q : PosShare TreeShare} {X : s.Idx → Elt F e} {Q : (r.shape.Idx → Elt F e) → sProp 𝕄} :
    iprop(owns (c : Thread nD τ) m q X ∗ (owns (c : Thread nD τ) m q X -∗ Q fun j => X (r.emb j)))
      ⊢ wp frame (wpE (defs₀ (F := F)) 𝒱₀ (c : Thread nD τ) none) Set.univ (Prog.lift (.load m r.toLoadRect hl)) Q := by
  unfold Prog.lift
  iintro ⟨H, HQ⟩
  unfold owns
  icases H with ⟨%f, %hf, H⟩
  iapply (wp_load_rect 𝒱₀ (c : Thread nD τ) none Set.univ (m := m) (r := r) (S := m.view.set) (q := q) (f := f) (View.set_slice_subset _ _)) $$ [H]
  · iexact H
  iintro H
  rw [show (m.access r).read (Elt F) f = fun j => X (r.emb j) from by rw [← hf]; rfl, wp_ret]
  imodintro
  iapply HQ
  iexists f
  isplitr; · ipureintro; exact hf
  iexact H

theorem run_store (c : Dev nD) {s : Shape} {e : EltTy} {m : Memref sig .tc .vmem s e} {r : Rect s} (hr : ∀ a, r.stride a = 1) {w : r.shape.Idx → Elt F e}
    {hx : (m.access r).Stores Finset.univ} {hm : Finset.univ = Finset.univ ∨ ∀ a, r.stride a = 1}
    {X : r.shape.Idx → Elt F e} {Q : PUnit → sProp 𝕄} :
    iprop(owns (c : Thread nD τ) (m.slice r hr) fullShare X ∗ (owns (c : Thread nD τ) (m.slice r hr) fullShare w -∗ Q ⟨⟩))
      ⊢ run c (Prog.lift (.store m r w Finset.univ hx hm)) Q := by
  show _ ⊢ run c (.op (.store m r w Finset.univ hx hm) .ret) Q
  iintro ⟨H, HQ⟩
  unfold owns
  icases H with ⟨%f, %hf, H⟩
  iapply (wp_store 𝒱₀ (c : Thread nD τ) none Set.univ (m := m) (r := r) (S := (m.slice r hr).view.set) (f := f) (View.setOn_subset_set _ _)) $$ [H]
  · iexact H
  iintro H
  rw [wp_ret]
  imodintro
  iapply HQ
  iexists ((m.access r).write (Elt F) f w Finset.univ)
  isplitr; · ipureintro; exact View.read_write_univ _ _
  iexact H

/-! ## What every device knows of every cell -/

variable (A : Dev nD → Acc F)

/-- Every cell's invariant, at the names `K`; every barrier cell open at its round. -/
def invs (K : GSem nD τ sig → ℕ) : sProp 𝕄 :=
  iprop((bigSep Finset.univ fun c : Dev nD => iprop(cellInv ER (Rd A) (K (barCell c)) (barCell c) ∗ reached ER (barCell c) 0))
    ∗ bigSep Finset.univ fun x : Fin 4 × Dev nD × Fin 15 => cellInv ER (Rd A) (K (dCell x.1 x.2.1 x.2.2)) (dCell x.1 x.2.1 x.2.2))

instance invs_persistent (K : GSem nD τ sig → ℕ) : BI.Persistent (invs A K) := by unfold invs; infer_instance

variable (K : GSem nD τ sig → ℕ)

theorem bigSep_elim' {I : Type} [Fintype I] [DecidableEq I] {Φ : I → sProp 𝕄} (i : I) : bigSep Finset.univ Φ ⊢ Φ i := by
  exact bigSep_elim (Finset.mem_univ i)

theorem invs_bar (c : Dev nD) : (invs A K : sProp 𝕄) ⊢ iprop(cellInv ER (Rd A) (K (barCell c)) (barCell c) ∗ reached ER (barCell c) 0) := by
  unfold invs
  iintro ⟨H, -⟩
  iapply (bigSep_elim' c) $$ H

theorem invs_dma (a : Fin 4) (c : Dev nD) (r : Fin 15) : (invs A K : sProp 𝕄) ⊢ cellInv ER (Rd A) (K (dCell a c r)) (dCell a c r) := by
  unfold invs
  iintro ⟨-, H⟩
  iapply (bigSep_elim' (Φ := fun x : Fin 4 × Dev nD × Fin 15 => cellInv ER (Rd A) (K (dCell x.1 x.2.1 x.2.2)) (dCell x.1 x.2.1 x.2.2)) (a, c, r)) $$ H

/-- What the device owes, whatever its waits so far. -/
abbrev owing (c : Dev nD) (O : CellTallies nD τ sig Unit) : sProp 𝕄 := iprop(∃ W : Waits sig Unit, owes (c : Thread nD τ) O W)

/-! ## The barrier -/

theorem sig_step (c : Dev nD) (O : CellTallies nD τ sig Unit) (r : Fin 15) (Q : PUnit → sProp 𝕄) :
    iprop(iprop(dutyTok ER (barCell (peer c r)) 0 (Fin.rev r) ∗ barPay (peer c r) (Fin.rev r))
      ∗ iprop(invs A K ∗ owing c (O + oweBar c r.val))
      ∗ (iprop(iprop(emp) ∗ iprop(invs A K ∗ owing c (O + oweBar c (r.val + 1)))) -∗ Q ⟨⟩)) ⊢ run c (sigR c r) Q := by
  unfold sigR semSignalWord
  rw [devS_eq]
  show _ ⊢ run c (.op (.semSignal (peer c r : Thread nD τ) barS ((1 : ℕ) : ℤ)) .ret) Q
  iintro ⟨⟨Ht, Hp⟩, ⟨#HI, ⟨%W, HO⟩⟩, HQ⟩
  ihave #HB := (invs_bar A K (peer c r)) $$ HI
  icases HB with ⟨#HB, #HR⟩
  iapply (Rounds.wp_signal 𝒱₀ ER (Rd A) (c : Thread nD τ) none (dst := (peer c r : Thread nD τ)) (sem := barS) (r := 0) (d := Fin.rev r)
      (κ := K (barCell (peer c r))) (by rw [duties_bar]; exact Finset.mem_univ _) (amount_bar A (peer c r) _) () (O₀ := O + oweBar c r.val) (O + oweBar c (r.val + 1))
      (by rw [oweBar_step, add_assoc])) $$ [HO Ht Hp]
  · isplitr; · iexact HB
    isplitl [HO]; · iexact HO
    isplitl [Ht]; · iexact Ht
    isplitl [Hp]
    · rw [payload_bar]; iexact Hp
    · iexact HR
  iintro HO
  rw [wp_ret]
  imodintro
  iapply HQ
  isplitr; · iempintro
  isplitr; · iexact HI
  iexists W; iexact HO

theorem bar_wait (c : Dev nD) (Q : PUnit → sProp 𝕄) :
    iprop(invs A K ∗ levAts L lv ∗ cred (tallyAt (barCell c) () 15) ∗ atPos ER (barCell c) 0 ∅ 0 ∗ owing c (oweDma 3 c 0 + oweDma 1 c 0)
      ∗ (iprop(semVal (barCell c) 0 ∗ (bigSep Finset.univ fun r => barPay (F := F) c r) ∗ owing c (oweDma 3 c 0 + oweDma 1 c 0)) -∗ Q ⟨⟩))
      ⊢ run c (semWaitWord barS 15#32) Q := by
  unfold semWaitWord
  show _ ⊢ run c (.op (.semWait barS ((15 : ℕ) : ℤ)) .ret) Q
  iintro ⟨#HI, #Hlev, Hc, Hat, ⟨%W, HO⟩, HQ⟩
  ihave #HB := (invs_bar A K c) $$ HI
  icases HB with ⟨#HB, -⟩
  iapply (Rounds.wp_wait_rest_token 𝒱₀ ER (Rd A) (c : Thread nD τ) none (κ := K (barCell c))
      (wpE_semWait_eq 𝒱₀ (c : Thread nD τ) none Set.univ) (Set.mem_univ _) () (O := oweDma 3 c 0 + oweDma 1 c 0) (W := W) (R := 0) (m := 0) (T := ∅)
      ((Nat.zero_add 15).trans (expect_bar A c).symm)) $$ [Hc HO Hat]
  · isplitr; · iexact HB
    isplitl [Hc]; · iexact Hc
    isplitl [HO]; · iexact HO
    isplitr; · iapply (mayWait_bar c); iexact Hlev
    iexact Hat
  iintro ⟨HO, Hat, -, Hpay⟩
  rw [wp_ret]
  imod (close A (K (barCell c)) (barCell c)) $$ [Hat] with Hs
  · isplitr; · iexact HB
    iexact Hat
  imodintro
  iapply HQ
  isplitl [Hs]; · iexact Hs
  isplitl [Hpay]; · iapply (Entails.of_eq (rest_bar A c)) $$ Hpay
  iexists _; iexact HO

/-! ## A transfer to a peer -/

/-- A transfer to the peer at place `r`: its departure pays cell `a` here, its arrival cell `b` there. -/
theorem put_step (c : Dev nD) (r : Fin 15) (a b : Fin 4) (O : CellTallies nD τ sig Unit) (n : Dev nD) (hn : n = peer c r)
    (src dst : Memref sig .tc .vmem S1x16x512 .bf16) (sS sR : DmaSem sig) (hS : sS = dsem a r) (hR : sR = dsem b r)
    (hN : dst.view.dmaCredit = N) (q : PosShare TreeShare) (X : Chunk F) (i : ℕ) (hi : oweDma b c i = oweDma b c (i + 1) + tallyAt (dCell b (peer c r) r) () N)
    (hp₁ : owns (c : Thread nD τ) src q X ⊢ dmaPay A c a r) (hp₂ : owns (peer c r : Thread nD τ) dst fullShare X ⊢ dmaPay A (peer c r) b r)
    {hsrc : src.view.WordExact} {hdst : dst.view.WordExact} {hsc : dst.view.ref.isScScratch = false}
    {hsem : DmaTarget.Typed .vmem (.dma sR) (.remote (Dev.tc n : Thread nD τ) dst (.dma sS) hsc)}
    (Q : PUnit → sProp 𝕄) :
    iprop(invs A K ∗ iprop(dutyTok ER (dCell a c r) 0 0 ∗ reached ER (dCell a c r) 0 ∗ dutyTok ER (dCell b (peer c r) r) 0 0 ∗ reached ER (dCell b (peer c r) r) 0)
      ∗ owns (c : Thread nD τ) src q X ∗ (∃ Y, owns (peer c r : Thread nD τ) dst fullShare Y) ∗ owing c (O + oweDma b c i)
      ∗ (iprop(cred (tallyAt (dCell a c r) () N) ∗ owing c (O + oweDma b c (i + 1))) -∗ Q ⟨⟩))
      ⊢ run c (Prog.lift (.enqueueDma src (.remote (Dev.tc n : Thread nD τ) dst (.dma sS) hsc) (.dma sR) hsrc hdst hsem)) Q := by
  subst hn hS hR
  show _ ⊢ run c (.op (.enqueueDma src (.remote (Dev.tc (peer c r)) dst (.dma (dsem a r)) hsc) (.dma (dsem b r)) hsrc hdst hsem) .ret) Q
  iintro ⟨#HI, ⟨Ht₁, Hr₁, Ht₂, Hr₂⟩, Hs, ⟨%Y, Hd⟩, ⟨%W, HO⟩, HQ⟩
  ihave #HI₁ := (invs_dma A K a c r) $$ HI
  ihave #HI₂ := (invs_dma A K b (peer c r) r) $$ HI
  unfold owns
  icases Hs with ⟨%fs, %hfs, Hs⟩
  icases Hd with ⟨%fd, %hfd, Hd⟩
  iapply (Rounds.wp_send_pointsTo 𝒱₀ ER (Rd A) (c : Thread nD τ) none (c' := (peer c r : Thread nD τ)) (src := src) (dst := dst)
      (sS := .dma (dsem a r)) (sem := .dma (dsem b r)) (q := q) (fs := fs) (fd := fd) (κ₁ := K (dCell a c r)) (κ₂ := K (dCell b (peer c r) r))
      (r₁ := 0) (r₂ := 0) (d₁ := 0) (d₂ := 0)
      (by rw [duties_dma]; exact Finset.mem_singleton_self _) (by rw [duties_dma]; exact Finset.mem_singleton_self _)
      () () N hN (amount_dma A c a r 0) (amount_dma A (peer c r) b r 0) (O₀ := O + oweDma b c i) (O + oweDma b c (i + 1)) (by rw [hi, add_assoc]) (W := W)
      (by rw [payload_dma]; exact (owns_intro _ _ _ _).trans (by rw [hfs]; exact hp₁))
      (by rw [payload_dma]; exact (owns_intro _ _ _ _).trans (by rw [View.read_write_univ, hfs]; exact hp₂))) $$ [Hs Hd HO Ht₁ Hr₁ Ht₂ Hr₂]
  · isplitr; · iexact HI₁
    isplitr; · iexact HI₂
    isplitl [Hs]; · iexact Hs
    isplitl [Hd]; · iexact Hd
    isplitl [HO]; · iexact HO
    isplitl [Ht₁]; · iexact Ht₁
    isplitl [Hr₁]; · iexact Hr₁
    isplitl [Ht₂]; · iexact Ht₂
    iexact Hr₂
  iintro ⟨Hc, HO⟩
  rw [wp_ret]
  imodintro
  iapply HQ
  isplitl [Hc]; · iexact Hc
  iexists W; iexact HO

/-- A wait on one of the device's own cells: its payment is received and the cell closed. -/
theorem get_step (c : Dev nD) (r : Fin 15) (a : Fin 4) (O : CellTallies nD τ sig Unit) (s : DmaSem sig) (hs : s = dsem a r)
    (hO : (levAts L lv : sProp 𝕄) ⊢ MayWait (c : Thread nD τ) (.dma (dsem a r)) () O)
    {sp sp' : Space} {sh sh' : Shape} {e e' : EltTy} (src : Memref sig .tc sp sh e) (dst : Memref sig .tc sp' sh' e') {hsrc : src.view.WordExact} {hdst : dst.view.WordExact}
    (hN : dst.view.dmaCredit = N) (Q : PUnit → sProp 𝕄) :
    iprop(invs A K ∗ levAts L lv ∗ iprop(cred (tallyAt (dCell a c r) () N) ∗ atPos ER (dCell a c r) 0 ∅ 0) ∗ owing c O
      ∗ (iprop(iprop(semVal (dCell a c r) 0 ∗ dmaPay A c a r) ∗ owing c O) -∗ Q ⟨⟩))
      ⊢ run c (Prog.lift (.waitDma2 s src dst hsrc hdst)) Q := by
  subst hs
  show _ ⊢ run c (.op (.waitDma2 (dsem a r) src dst hsrc hdst) .ret) Q
  iintro ⟨#HI, #Hlev, ⟨Hc, Hat⟩, ⟨%W, HO⟩, HQ⟩
  ihave #HB := (invs_dma A K a c r) $$ HI
  iapply (Rounds.wp_wait_rest_token 𝒱₀ ER (Rd A) (c : Thread nD τ) none (κ := K (dCell a c r))
      (wpE_waitDma2_eq (src := src) (dst := dst) 𝒱₀ (c : Thread nD τ) none Set.univ) (Set.mem_univ _) () (O := O) (W := W) (R := 0) (m := 0) (T := ∅)
      (by rw [Nat.zero_add, hN, expect_dma])) $$ [Hc HO Hat]
  · isplitr; · iexact HB
    isplitl [Hc]; · rw [hN]; iexact Hc
    isplitl [HO]; · iexact HO
    isplitr; · iapply hO; iexact Hlev
    iexact Hat
  iintro ⟨HO, Hat, -, Hpay⟩
  rw [wp_ret]
  imod (close A (K (dCell a c r)) (dCell a c r)) $$ [Hat] with Hs
  · isplitr; · iexact HB
    iexact Hat
  imodintro
  iapply HQ
  isplitr [HO]
  · isplitl [Hs]; · iexact Hs
    iapply (Entails.of_eq (rest_dma A c a r)) $$ Hpay
  iexists _; iexact HO

end Cert.K

end
-- ==== Proof.Chunks.lean ====
/- The buffers as their chunks, and the two straight stretches of the body: the partial products, and the sum of the device's own chunk. -/
module

public import proofs.«01_k».proof.Proof.Steps

@[expose] public section

set_option maxRecDepth 16384

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

/-! ## Partitions -/

theorem half_inb : ∀ h : Fin 2, ∀ a, (![8 * h.val, 0, 0] : Fin 3 → Nat) a + S8x16x512.size a ≤ S16x16x512.size a := by decide +kernel

/-- The accumulator's eight chunks of batch `h`. -/
abbrev halfRect (h : Fin 2) : Rect S16x16x512 := Rect.unit ![8 * h.val, 0, 0] S8x16x512.size (half_inb h)

theorem disj_of_axis {s : Shape} (r r' : Rect s) (a : Fin s.rank) (hst : r.stride a = 1) (hst' : r'.stride a = 1)
    (h : r.off a + r.size a ≤ r'.off a ∨ r'.off a + r'.size a ≤ r.off a) : Disjoint r.set r'.set :=
  Finset.disjoint_left.mpr fun y hy hy' => by
    obtain ⟨j, hj, e⟩ := r.mem_set.mp hy a
    obtain ⟨j', hj', e'⟩ := r'.mem_set.mp hy' a
    rw [hst, Nat.one_mul] at e; rw [hst', Nat.one_mul] at e'
    omega

theorem acc_disj (s t : Dev nD) (h : s ≠ t) : Disjoint (accRect s).set (accRect t).set :=
  disj_of_axis _ _ 0 rfl rfl (by
    have : s.val ≠ t.val := fun e => h (Fin.ext e)
    show s.val + 1 ≤ t.val ∨ t.val + 1 ≤ s.val; omega)

theorem half_disj (s t : Fin 2) (h : s ≠ t) : Disjoint (halfRect s).set (halfRect t).set :=
  disj_of_axis _ _ 0 rfl rfl (by
    have : s.val ≠ t.val := fun e => h (Fin.ext e)
    show 8 * s.val + 8 ≤ 8 * t.val ∨ 8 * t.val + 8 ≤ 8 * s.val; omega)

theorem out_disj (s t : Dev nD) (h : s ≠ t) : Disjoint (outRect s).set (outRect t).set := by
  have hne : s.val ≠ t.val := fun e => h (Fin.ext e)
  by_cases hb : s.val / 8 = t.val / 8
  · refine disj_of_axis _ _ 1 rfl rfl ?_
    show 16 * (s.val % 8) + 16 ≤ 16 * (t.val % 8) ∨ 16 * (t.val % 8) + 16 ≤ 16 * (s.val % 8); omega
  · refine disj_of_axis _ _ 0 rfl rfl ?_
    show s.val / 8 + 1 ≤ t.val / 8 ∨ t.val / 8 + 1 ≤ s.val / 8; omega

theorem acc_cov : (Finset.univ : Finset (Dev nD)).biUnion (fun s => (accRect s).set) = Finset.univ := by
  ext y; simp only [Finset.mem_biUnion, Finset.mem_univ, true_and, iff_true]
  refine ⟨y 0, (LoadRect.mem_set _).mpr fun a => ?_⟩
  fin_cases a
  · exact ⟨0, Nat.one_pos, rfl⟩
  · exact ⟨(y 1).val, (y 1).isLt, by show (y 1).val = 0 + 1 * (y 1).val; omega⟩
  · exact ⟨(y 2).val, (y 2).isLt, by show (y 2).val = 0 + 1 * (y 2).val; omega⟩

theorem half_cov : (Finset.univ : Finset (Fin 2)).biUnion (fun s => (halfRect s).set) = Finset.univ := by
  ext y; simp only [Finset.mem_biUnion, Finset.mem_univ, true_and, iff_true]
  have h0 : (y 0).val < 16 := (y 0).isLt
  refine ⟨⟨(y 0).val / 8, by omega⟩, (LoadRect.mem_set _).mpr fun a => ?_⟩
  fin_cases a
  · exact ⟨(y 0).val % 8, Nat.mod_lt _ (by decide), by show (y 0).val = 8 * ((y 0).val / 8) + 1 * ((y 0).val % 8); omega⟩
  · exact ⟨(y 1).val, (y 1).isLt, by show (y 1).val = 0 + 1 * (y 1).val; omega⟩
  · exact ⟨(y 2).val, (y 2).isLt, by show (y 2).val = 0 + 1 * (y 2).val; omega⟩

theorem out_cov : (Finset.univ : Finset (Dev nD)).biUnion (fun s => (outRect s).set) = Finset.univ := by
  ext y; simp only [Finset.mem_biUnion, Finset.mem_univ, true_and, iff_true]
  have h0 : (y 0).val < 2 := (y 0).isLt
  have h1 : (y 1).val < 128 := (y 1).isLt
  refine ⟨⟨8 * (y 0).val + (y 1).val / 16, by show _ < 16; omega⟩, (LoadRect.mem_set _).mpr fun a => ?_⟩
  fin_cases a
  · exact ⟨0, Nat.one_pos, by show (y 0).val = (8 * (y 0).val + (y 1).val / 16) / 8 + 1 * 0; omega⟩
  · exact ⟨(y 1).val % 16, Nat.mod_lt _ (by decide), by show (y 1).val = 16 * ((8 * (y 0).val + (y 1).val / 16) % 8) + 1 * ((y 1).val % 16); omega⟩
  · exact ⟨(y 2).val, (y 2).isLt, by show (y 2).val = 0 + 1 * (y 2).val; omega⟩

theorem owns_some (c : Dev nD) {s : Shape} {e : EltTy} (m : Memref sig .tc .vmem s e) (X : s.Idx → Elt F e) :
    (owns (c : Thread nD τ) m fullShare X : sProp 𝕄) ⊢ iprop(∃ Y, owns (c : Thread nD τ) m fullShare Y) := by
  iintro H; iexists X; iexact H

variable (A : Dev nD → Acc F)

/-- The accumulator as the device's own chunk and its peers' chunks. -/
theorem acc_split (c : Dev nD) : (owns (c : Thread nD τ) accM fullShare (A c) : sProp 𝕄)
    ⊢ iprop(owns (c : Thread nD τ) (accCh c) fullShare (part A c c) ∗ bigSep Finset.univ fun r : Fin 15 => dmaPay A c 0 r) :=
  (owns_rects (c : Thread nD τ) accM fullShare accRect (fun _ _ => rfl) acc_disj acc_cov (A c)).trans
    (Entails.of_eq (bigSep_around c _))
theorem acc_join (c : Dev nD) :
    iprop(owns (c : Thread nD τ) (accCh c) fullShare (part A c c) ∗ bigSep Finset.univ fun r : Fin 15 => dmaPay A c 0 r)
      ⊢ (owns (c : Thread nD τ) accM fullShare (A c) : sProp 𝕄) :=
  (Entails.of_eq (bigSep_around c (fun s => owns (c : Thread nD τ) (accCh s) fullShare (part A c s))).symm).trans
    (owns_of_rects (c : Thread nD τ) accM fullShare accRect (fun _ _ => rfl) acc_disj acc_cov (A c))

/-- The landing places of the second exchange: the result's chunks, at contents not chosen. -/
theorem out_split (c : Dev nD) (X : S2x128x512.Idx → Elt F .bf16) : (owns (c : Thread nD τ) outM fullShare X : sProp 𝕄)
    ⊢ iprop((∃ Y, owns (c : Thread nD τ) (outCh c) fullShare Y) ∗ bigSep Finset.univ fun r : Fin 15 => iprop(∃ Y, owns (c : Thread nD τ) (outCh (peer c r)) fullShare Y)) :=
  ((owns_rects (c : Thread nD τ) outM fullShare outRect (fun _ _ => rfl) out_disj out_cov X).trans
    (bigSep_mono (Ψ := fun s => iprop(∃ Y, owns (c : Thread nD τ) (outCh s) fullShare Y)) fun s _ => owns_some _ _ _)).trans
    (Entails.of_eq (bigSep_around c _))
theorem out_join (c : Dev nD) :
    iprop(owns (c : Thread nD τ) (outCh c) fullShare (red A c) ∗ bigSep Finset.univ fun r : Fin 15 => dmaPay A c 3 r)
      ⊢ (owns (c : Thread nD τ) outM fullShare (outv A) : sProp 𝕄) := by
  have h : (bigSep Finset.univ fun r : Fin 15 => dmaPay A c 3 r : sProp 𝕄)
      = bigSep Finset.univ fun r : Fin 15 => owns (c : Thread nD τ) (outCh (peer c r)) fullShare (red A (peer c r)) := by
    rw [← bigSep_rev]; refine bigSep_congr fun r _ => ?_
    show owns (c : Thread nD τ) (outCh (src c (Fin.rev r))) fullShare (red A (src c (Fin.rev r))) = _
    rw [src_eq_peer_rev, Fin.rev_rev]
  rw [h]
  refine (Entails.of_eq (bigSep_around c (fun s => owns (c : Thread nD τ) (outCh s) fullShare (red A s))).symm).trans ?_
  refine (Entails.of_eq (bigSep_congr fun s _ => ?_)).trans (owns_of_rects (c : Thread nD τ) outM fullShare outRect (fun _ _ => rfl) out_disj out_cov (outv A))
  rw [outv_chunk]

/-- The landing places of the first exchange. -/
theorem rs_split (c : Dev nD) (X : Acc F) : (owns (c : Thread nD τ) rsM fullShare X : sProp 𝕄)
    ⊢ iprop((∃ Y, owns (c : Thread nD τ) (rsM.slice (accRect 0) (fun _ => rfl)) fullShare Y) ∗ bigSep Finset.univ fun r : Fin 15 => iprop(∃ Y, owns (c : Thread nD τ) (rsCh r) fullShare Y)) :=
  ((owns_rects (c : Thread nD τ) rsM fullShare accRect (fun _ _ => rfl) acc_disj acc_cov X).trans
    (bigSep_mono (Ψ := fun s => iprop(∃ Y, owns (c : Thread nD τ) (rsM.slice (accRect s) (fun _ => rfl)) fullShare Y)) fun s _ => owns_some _ _ _)).trans
    (Entails.of_eq (bigSep_fin_succ (n := 15) _))

/-- What the receive buffer holds once the fifteen chunks have arrived: `Y` in the slot no peer writes. -/
def rsv (c : Dev nD) (Y : Chunk F) : Acc F := fun i =>
  Fin.cases (motive := fun _ => Elt F .bf16) (Y (ix3 (n0 := 1) (n1 := 16) (n2 := 512) 0 (i 1) (i 2))) (fun r : Fin 15 => part A (src c r) c (ix3 (n0 := 1) (n1 := 16) (n2 := 512) 0 (i 1) (i 2))) (i 0 : Fin 16)

theorem emb_acc (s : Dev nD) (j : S1x16x512.Idx) : (accRect s).emb j = ix3 (n0 := 16) (n1 := 16) (n2 := 512) s (j 1) (j 2) := by
  have h0 : (j 0).val < 1 := (j 0).isLt
  funext a; apply Fin.ext
  fin_cases a
  · show s.val + 1 * (j 0).val = s.val; omega
  · show 0 + 1 * (j 1).val = (j 1).val; omega
  · show 0 + 1 * (j 2).val = (j 2).val; omega

theorem chunk_ix (j : S1x16x512.Idx) : ix3 (n0 := 1) (n1 := 16) (n2 := 512) 0 (j 1) (j 2) = j := by
  have h0 : (j 0).val < 1 := (j 0).isLt
  funext a; apply Fin.ext
  fin_cases a
  · show 0 = (j 0).val; omega
  · rfl
  · rfl

theorem rsv_gath (c : Dev nD) (Y : Chunk F) : (fun j => rsv A c Y ((Rect.unit (s := S16x16x512) ![1, 0, 0] S15x16x512.size inb_S16x16x512_S15x16x512_1_0_0).emb j)) = gath A c := by
  funext j
  have e : (Rect.unit (s := S16x16x512) ![1, 0, 0] S15x16x512.size inb_S16x16x512_S15x16x512_1_0_0).emb j
      = ix3 (n0 := 16) (n1 := 16) (n2 := 512) (Fin.succ (n := 15) (j 0)) (j 1) (j 2) := by
    funext a; apply Fin.ext
    fin_cases a
    · show 1 + 1 * (j 0).val = (j 0).val + 1; omega
    · show 0 + 1 * (j 1).val = (j 1).val; omega
    · show 0 + 1 * (j 2).val = (j 2).val; omega
  rw [e]; rfl

theorem rs_join (c : Dev nD) (Y : Chunk F) :
    iprop(owns (c : Thread nD τ) (rsM.slice (accRect 0) (fun _ => rfl)) fullShare Y ∗ bigSep Finset.univ fun r : Fin 15 => dmaPay A c 1 r)
      ⊢ (owns (c : Thread nD τ) rsM fullShare (rsv A c Y) : sProp 𝕄) := by
  refine BI.Entails.trans ?_ (owns_of_rects (c : Thread nD τ) rsM fullShare accRect (fun _ _ => rfl) acc_disj acc_cov (rsv A c Y))
  refine BI.Entails.trans ?_ (Entails.of_eq (bigSep_fin_succ (n := 15) _).symm)
  have h0 : (fun j => rsv A c Y ((accRect 0).emb j)) = Y := by
    funext j; rw [emb_acc]
    show Y (ix3 (n0 := 1) (n1 := 16) (n2 := 512) 0 (j 1) (j 2)) = Y j; rw [chunk_ix]
  have h1 : ∀ r : Fin 15, (fun j => rsv A c Y ((accRect (Fin.succ r)).emb j)) = part A (src c r) c := fun r => by
    funext j; rw [emb_acc]
    show part A (src c r) c (ix3 (n0 := 1) (n1 := 16) (n2 := 512) 0 (j 1) (j 2)) = part A (src c r) c j; rw [chunk_ix]
  have h2 : ∀ r : Fin 15, (owns (c : Thread nD τ) (rsM.slice (accRect (Fin.succ r)) (fun _ => rfl)) fullShare (fun j => rsv A c Y ((accRect (Fin.succ r)).emb j)) : sProp 𝕄)
      = dmaPay A c 1 r := fun r => by rw [h1]; rfl
  rw [bigSep_congr (fun r _ => h2 r)]
  exact Entails.of_eq (congrArg (fun X => iprop(owns (c : Thread nD τ) (rsM.slice (accRect 0) (fun _ => rfl)) fullShare X ∗ bigSep Finset.univ fun r : Fin 15 => dmaPay A c 1 r)) h0.symm)

/-! ## The sum of the device's own chunk -/

theorem acc_at (c : Dev nD) (off : Fin 3 → Nat) (h : off = ![c.val, 0, 0]) (inb : ∀ a, off a + S1x16x512.size a ≤ S16x16x512.size a) :
    accM.slice (Rect.unit (s := S16x16x512) off S1x16x512.size inb) (fun _ => rfl) = accCh c := by subst h; rfl
theorem out_at (c : Dev nD) (off : Fin 3 → Nat) (h : off = ![c.val / 8, 16 * (c.val % 8), 0]) (inb : ∀ a, off a + S1x16x512.size a ≤ S2x128x512.size a) :
    outM.slice (Rect.unit (s := S2x128x512) off S1x16x512.size inb) (fun _ => rfl) = outCh c := by subst h; rfl

theorem run_reduce (c : Dev nD) (h5 : outM.IsWhole) (Y : Chunk F) (Q : PUnit → sProp 𝕄) :
    iprop(owns (c : Thread nD τ) (accCh c) fullShare (part A c c) ∗ owns (c : Thread nD τ) rsM fullShare (rsv A c Y) ∗ (∃ Z, owns (c : Thread nD τ) (outCh c) fullShare Z)
      ∗ (iprop(owns (c : Thread nD τ) (accCh c) fullShare (part A c c) ∗ owns (c : Thread nD τ) rsM fullShare (rsv A c Y) ∗ owns (c : Thread nD τ) (outCh c) fullShare (red A c)) -∗ Q ⟨⟩))
      ⊢ run c (reduce outM h5 accM rsM c) Q := by
  unfold reduce run
  iintro ⟨Ha, Hr, ⟨%Z, Ho⟩, HQ⟩
  rw [wp_bind]
  iapply (run_load c (m := accM) (r := Rect.unit (s := S16x16x512) (k0_off2 c) S1x16x512.size (k0_off2_inb c)) (fun _ => rfl) (q := fullShare) (X := part A c c))
  rw [acc_at c _ (off2_eq c)]
  isplitl [Ha]; · iexact Ha
  iintro Ha
  rw [wp_bind]
  iapply (run_load_of c (m := rsM) (q := fullShare) (X := rsv A c Y))
  isplitl [Hr]; · iexact Hr
  iintro Hr
  rw [rsv_gath, wp_bind]
  iapply (run_load c (m := outM) (r := Rect.unit (s := S2x128x512) (k0_off3 c) S1x16x512.size (k0_off3_inb c)) (fun _ => rfl) (q := fullShare) (X := Z))
  rw [out_at c _ (off3_eq c)]
  isplitl [Ho]; · iexact Ho
  iintro Ho
  iapply (run_store c (m := outM) (r := Rect.unit (s := S2x128x512) (k0_off3 c) S1x16x512.size (k0_off3_inb c)) (fun _ => rfl) (X := Z))
  rw [out_at c _ (off3_eq c)]
  isplitl [Ho]; · iexact Ho
  iintro Ho
  iapply HQ
  isplitl [Ha]; · iexact Ha
  isplitl [Hr]; · iexact Hr
  iexact Ho

end Cert.K

end
-- ==== Proof.Body.lean ====
/- The body's run on one device: from its buffers, its tokens and its credits to every cell closed and the result gathered. -/
module

public import proofs.«01_k».proof.Proof.Chunks

@[expose] public section

set_option maxRecDepth 16384

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

/-! ## The partial products -/

section Compute

variable (X₀ : S2x128x512.Idx → Elt F .bf16) (X₁ : S512x256.Idx → Elt F .bf16) (X₂ X₃ : S2x128x256.Idx → Elt F .bf16) (X₄ : S256x512.Idx → Elt F .bf16)

/-- A block of batch 0 or of batch 1, and the rows of one head's output projection, as the kernel loads them. -/
abbrev wv : Vec F S512x256 .bf16 := fun j => X₁ ((Rect.unit (s := S512x256) ![0, 0] S512x256.size inb_S512x256_S512x256_0_0).emb j)
abbrev xv0 : Vec F S1x128x512 .bf16 := fun j => X₀ ((Rect.unit (s := S2x128x512) ![0, 0, 0] S1x128x512.size inb_S2x128x512_S1x128x512_0_0_0).emb j)
abbrev xv1 : Vec F S1x128x512 .bf16 := fun j => X₀ ((Rect.unit (s := S2x128x512) ![1, 0, 0] S1x128x512.size inb_S2x128x512_S1x128x512_1_0_0).emb j)
abbrev kv0 : Vec F S1x128x256 .bf16 := fun j => X₂ ((Rect.unit (s := S2x128x256) ![0, 0, 0] S1x128x256.size inb_S2x128x256_S1x128x256_0_0_0).emb j)
abbrev kv1 : Vec F S1x128x256 .bf16 := fun j => X₂ ((Rect.unit (s := S2x128x256) ![1, 0, 0] S1x128x256.size inb_S2x128x256_S1x128x256_1_0_0).emb j)
abbrev ov0 : Vec F S64x512 .bf16 := fun j => X₄ ((Rect.unit (s := S256x512) ![0, 0] S64x512.size inb_S256x512_S64x512_0_0).emb j)
abbrev ov1 : Vec F S64x512 .bf16 := fun j => X₄ ((Rect.unit (s := S256x512) ![64, 0] S64x512.size inb_S256x512_S64x512_64_0).emb j)
abbrev ov2 : Vec F S64x512 .bf16 := fun j => X₄ ((Rect.unit (s := S256x512) ![128, 0] S64x512.size inb_S256x512_S64x512_128_0).emb j)
abbrev ov3 : Vec F S64x512 .bf16 := fun j => X₄ ((Rect.unit (s := S256x512) ![192, 0] S64x512.size inb_S256x512_S64x512_192_0).emb j)

/-- Batch 0's partial products. -/
def half0 : Vec F S8x16x512 .bf16 :=
  k0_pay11 (k0_pay9 (k0_pay2 (wv X₁) (xv0 X₀)) (k0_pay3 (kv0 X₂)) (k0_pay4 (kv0 X₃)) (k0_pay5 (wv X₁) (xv0 X₀) (kv0 X₂) (kv0 X₃) (ov0 X₄)) (k0_pay6 (wv X₁) (xv0 X₀)) (k0_pay7 (kv0 X₂)) (k0_pay8 (kv0 X₃)) (ov1 X₄) (ov2 X₄)) (k0_pay10 (k0_pay2 (wv X₁) (xv0 X₀)) (k0_pay3 (kv0 X₂)) (k0_pay4 (kv0 X₃))) (ov3 X₄)

/-- Batch 1's. -/
def half1 : Vec F S8x16x512 .bf16 :=
  k0_pay19 (k0_pay17 (k0_pay12 (k0_pay1 (wv X₁)) (xv1 X₀)) (k0_pay13 (kv1 X₂)) (k0_pay14 (kv1 X₃)) (k0_pay15 (k0_pay1 (wv X₁)) (xv1 X₀) (kv1 X₂) (kv1 X₃) (ov0 X₄)) (k0_pay16 (k0_pay1 (wv X₁)) (xv1 X₀)) (ov1 X₄) (ov2 X₄)) (k0_pay18 (k0_pay12 (k0_pay1 (wv X₁)) (xv1 X₀)) (k0_pay13 (kv1 X₂)) (k0_pay14 (kv1 X₃))) (ov3 X₄)

/-- The accumulator a device computes from its staged inputs. -/
def accv : Acc F := fun i =>
  if h : (i 0).val < 8 then half0 X₀ X₁ X₂ X₃ X₄ (ix3 (n0 := 8) (n1 := 16) (n2 := 512) ⟨(i 0).val, h⟩ (i 1) (i 2))
  else half1 X₀ X₁ X₂ X₃ X₄ (ix3 (n0 := 8) (n1 := 16) (n2 := 512) ⟨(i 0).val - 8, by have : (i 0).val < 16 := (i 0).isLt; omega⟩ (i 1) (i 2))

theorem accv_half0 : (fun j => accv X₀ X₁ X₂ X₃ X₄ ((halfRect 0).emb j)) = half0 X₀ X₁ X₂ X₃ X₄ := by
  funext j
  have h0 : (j 0).val < 8 := (j 0).isLt
  have hv : ((halfRect 0).emb j 0).val = 8 * 0 + 1 * (j 0).val := rfl
  refine (dif_pos (show ((halfRect 0).emb j 0).val < 8 by omega)).trans (congrArg (half0 X₀ X₁ X₂ X₃ X₄) ?_)
  funext a; apply Fin.ext
  fin_cases a
  · show 8 * 0 + 1 * (j 0).val = (j 0).val; omega
  · show 0 + 1 * (j 1).val = (j 1).val; omega
  · show 0 + 1 * (j 2).val = (j 2).val; omega

theorem accv_half1 : (fun j => accv X₀ X₁ X₂ X₃ X₄ ((halfRect 1).emb j)) = half1 X₀ X₁ X₂ X₃ X₄ := by
  funext j
  have h0 : (j 0).val < 8 := (j 0).isLt
  have hv : ((halfRect 1).emb j 0).val = 8 * 1 + 1 * (j 0).val := rfl
  refine (dif_neg (show ¬ ((halfRect 1).emb j 0).val < 8 by omega)).trans (congrArg (half1 X₀ X₁ X₂ X₃ X₄) ?_)
  funext a; apply Fin.ext
  fin_cases a
  · show 8 * 1 + 1 * (j 0).val - 8 = (j 0).val; omega
  · show 0 + 1 * (j 1).val = (j 1).val; omega
  · show 0 + 1 * (j 2).val = (j 2).val; omega

/-- A device's staged inputs. -/
def ins (c : Dev nD) (arg0 : Memref sig .tc .vmem S2x128x512 .bf16) (arg1 : Memref sig .tc .vmem S512x256 .bf16) (arg2 arg3 : Memref sig .tc .vmem S2x128x256 .bf16)
    (arg4 : Memref sig .tc .vmem S256x512 .bf16) : sProp 𝕄 :=
  iprop(owns (c : Thread nD τ) arg0 fullShare X₀ ∗ owns (c : Thread nD τ) arg1 fullShare X₁ ∗ owns (c : Thread nD τ) arg2 fullShare X₂
    ∗ owns (c : Thread nD τ) arg3 fullShare X₃ ∗ owns (c : Thread nD τ) arg4 fullShare X₄)

theorem halves (c : Dev nD) (X : Acc F) : (owns (c : Thread nD τ) accM fullShare X : sProp 𝕄)
    ⊢ iprop(owns (c : Thread nD τ) (accM.slice (halfRect 0) (fun _ => rfl)) fullShare (fun j => X ((halfRect 0).emb j))
      ∗ owns (c : Thread nD τ) (accM.slice (halfRect 1) (fun _ => rfl)) fullShare (fun j => X ((halfRect 1).emb j))) := by
  refine (owns_rects (c : Thread nD τ) accM fullShare halfRect (fun _ _ => rfl) half_disj half_cov X).trans ?_
  rw [bigSep_fin_succ, bigSep_fin_succ, Finset.univ_eq_empty, bigSep_empty]
  iintro ⟨H₀, H₁, -⟩
  isplitl [H₀]; · iexact H₀
  iexact H₁
theorem of_halves (c : Dev nD) (X : Acc F) :
    iprop(owns (c : Thread nD τ) (accM.slice (halfRect 0) (fun _ => rfl)) fullShare (fun j => X ((halfRect 0).emb j))
      ∗ owns (c : Thread nD τ) (accM.slice (halfRect 1) (fun _ => rfl)) fullShare (fun j => X ((halfRect 1).emb j)))
      ⊢ (owns (c : Thread nD τ) accM fullShare X : sProp 𝕄) := by
  have h := owns_of_rects (Ix := Unit) (Name := ℕ) (U := UU) (Lvl := ℕ) (Val := Elt F) (c : Thread nD τ) accM fullShare halfRect (fun _ _ => rfl) half_disj half_cov X
  rw [bigSep_fin_succ, bigSep_fin_succ, Finset.univ_eq_empty, bigSep_empty] at h
  iintro ⟨H₀, H₁⟩
  iapply h
  isplitl [H₀]; · iexact H₀
  isplitl [H₁]; · iexact H₁
  iempintro

theorem run_compute (c : Dev nD) (arg0 : Memref sig .tc .vmem S2x128x512 .bf16) (harg0 : arg0.IsWhole) (arg1 : Memref sig .tc .vmem S512x256 .bf16) (harg1 : arg1.IsWhole)
    (arg2 : Memref sig .tc .vmem S2x128x256 .bf16) (harg2 : arg2.IsWhole) (arg3 : Memref sig .tc .vmem S2x128x256 .bf16) (harg3 : arg3.IsWhole)
    (arg4 : Memref sig .tc .vmem S256x512 .bf16) (harg4 : arg4.IsWhole) (harg6 : accM.IsWhole) (Q : PUnit → sProp 𝕄) :
    iprop(ins X₀ X₁ X₂ X₃ X₄ c arg0 arg1 arg2 arg3 arg4 ∗ (∃ X, owns (c : Thread nD τ) accM fullShare X)
      ∗ (iprop(ins X₀ X₁ X₂ X₃ X₄ c arg0 arg1 arg2 arg3 arg4 ∗ owns (c : Thread nD τ) accM fullShare (accv X₀ X₁ X₂ X₃ X₄)) -∗ Q ⟨⟩))
      ⊢ run c (compute arg0 harg0 arg1 harg1 arg2 harg2 arg3 harg3 arg4 harg4 accM harg6) Q := by
  unfold compute ins run
  iintro ⟨⟨H0, H1, H2, H3, H4⟩, ⟨%X, H6⟩, HQ⟩
  ihave H6 := (halves c X) $$ H6
  icases H6 with ⟨Ha, Hb⟩
  rw [wp_bind]; iapply (run_load_of c (m := arg1) (q := fullShare) (X := X₁))
  isplitl [H1]; · iexact H1
  iintro H1
  rw [wp_bind]; iapply (run_load_of c (m := arg0) (q := fullShare) (X := X₀))
  isplitl [H0]; · iexact H0
  iintro H0
  rw [wp_bind]; iapply (run_load_of c (m := arg2) (q := fullShare) (X := X₂))
  isplitl [H2]; · iexact H2
  iintro H2
  rw [wp_bind]; iapply (run_load_of c (m := arg3) (q := fullShare) (X := X₃))
  isplitl [H3]; · iexact H3
  iintro H3
  rw [wp_bind]; iapply (run_load_of c (m := arg4) (q := fullShare) (X := X₄))
  isplitl [H4]; · iexact H4
  iintro H4
  rw [wp_bind]; iapply (run_load_of c (m := arg4) (q := fullShare) (X := X₄))
  isplitl [H4]; · iexact H4
  iintro H4
  rw [wp_bind]; iapply (run_load_of c (m := arg4) (q := fullShare) (X := X₄))
  isplitl [H4]; · iexact H4
  iintro H4
  rw [wp_bind]; iapply (run_load_of c (m := arg4) (q := fullShare) (X := X₄))
  isplitl [H4]; · iexact H4
  iintro H4
  rw [wp_bind]; iapply (run_load c (m := accM) (r := halfRect 0) (fun _ => rfl) (q := fullShare) (X := fun j => X ((halfRect 0).emb j)))
  isplitl [Ha]; · iexact Ha
  iintro Ha
  rw [wp_bind]; iapply (run_store c (m := accM) (r := halfRect 0) (fun _ => rfl) (w := half0 X₀ X₁ X₂ X₃ X₄) (X := fun j => X ((halfRect 0).emb j)))
  isplitl [Ha]; · iexact Ha
  iintro Ha
  rw [wp_bind]; iapply (run_load_of c (m := arg0) (q := fullShare) (X := X₀))
  isplitl [H0]; · iexact H0
  iintro H0
  rw [wp_bind]; iapply (run_load_of c (m := arg2) (q := fullShare) (X := X₂))
  isplitl [H2]; · iexact H2
  iintro H2
  rw [wp_bind]; iapply (run_load_of c (m := arg3) (q := fullShare) (X := X₃))
  isplitl [H3]; · iexact H3
  iintro H3
  rw [wp_bind]; iapply (run_load_of c (m := arg4) (q := fullShare) (X := X₄))
  isplitl [H4]; · iexact H4
  iintro H4
  rw [wp_bind]; iapply (run_load_of c (m := arg4) (q := fullShare) (X := X₄))
  isplitl [H4]; · iexact H4
  iintro H4
  rw [wp_bind]; iapply (run_load_of c (m := arg4) (q := fullShare) (X := X₄))
  isplitl [H4]; · iexact H4
  iintro H4
  rw [wp_bind]; iapply (run_load_of c (m := arg4) (q := fullShare) (X := X₄))
  isplitl [H4]; · iexact H4
  iintro H4
  rw [wp_bind]; iapply (run_load c (m := accM) (r := halfRect 1) (fun _ => rfl) (q := fullShare) (X := fun j => X ((halfRect 1).emb j)))
  isplitl [Hb]; · iexact Hb
  iintro Hb
  iapply (run_store c (m := accM) (r := halfRect 1) (fun _ => rfl) (w := half1 X₀ X₁ X₂ X₃ X₄) (X := fun j => X ((halfRect 1).emb j)))
  isplitl [Hb]; · iexact Hb
  iintro Hb
  iapply HQ
  isplitr [Ha Hb]
  · isplitl [H0]; · iexact H0
    isplitl [H1]; · iexact H1
    isplitl [H2]; · iexact H2
    isplitl [H3]; · iexact H3
    iexact H4
  · iapply (of_halves c (accv X₀ X₁ X₂ X₃ X₄))
    rw [accv_half0, accv_half1]
    isplitl [Ha]; · iexact Ha
    iexact Hb

end Compute

end Cert.K

end
-- ==== Proof.Run.lean ====
/- The body's run on one device: from its buffers, its tokens and its credits to every cell closed and the result gathered. -/
module

public import proofs.«01_k».proof.Proof.Body

@[expose] public section

set_option maxRecDepth 16384

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (A : Dev nD → Acc F) (K : GSem nD τ sig → ℕ)

/-! ## The loops -/

theorem run_signals (c : Dev nD) (O : CellTallies nD τ sig Unit) (Q : PUnit → sProp 𝕄) :
    iprop((bigSep Finset.univ fun r : Fin 15 => iprop(dutyTok ER (barCell (peer c r)) 0 (Fin.rev r) ∗ barPay (peer c r) (Fin.rev r)))
      ∗ iprop(invs A K ∗ owing c (O + oweBar c 0)) ∗ (owing c O -∗ Q ⟨⟩)) ⊢ run c (loop 15 (sigR c)) Q := by
  iintro ⟨HP, HS, HQ⟩
  iapply (run_loop c 15 (sigR c) _ (fun _ => iprop(emp)) (fun i => iprop(invs A K ∗ owing c (O + oweBar c i))) (fun r Q => sig_step A K c O r Q) Q)
  isplitl [HP]; · iexact HP
  isplitl [HS]; · iexact HS
  iintro ⟨-, -, HO⟩
  rw [oweBar_end, add_zero]
  iapply HQ; iexact HO

/-- What the device holds to start a transfer at place `r` that pays cell `a` here and cell `b` there. -/
abbrev toks (a b : Fin 4) (c : Dev nD) (r : Fin 15) : sProp 𝕄 :=
  iprop(dutyTok ER (dCell a c r) 0 0 ∗ reached ER (dCell a c r) 0 ∗ dutyTok ER (dCell b (peer c r) r) 0 0 ∗ reached ER (dCell b (peer c r) r) 0)

theorem accOf_eq (c : Dev nD) (r : Fin 15) : accOf accM c r = accCh (peer c r) := acc_of_off _ _ (off1_eq c r) _
where
  acc_of_off (d : Dev nD) (off : Fin 3 → Nat) (h : off = ![d.val, 0, 0]) (inb : ∀ a, off a + S1x16x512.size a ≤ S16x16x512.size a) :
    accM.slice (Rect.unit (s := S16x16x512) off S1x16x512.size inb) (fun _ => rfl) = accCh d := by subst h; rfl

theorem outMe_eq (c : Dev nD) : outMe outM c = outCh c := out_at c _ (off4_eq c) _

theorem putA_step (c : Dev nD) (h6 : accM.IsWhole) (h7 : rsM.IsWhole) (r : Fin 15) (Q : PUnit → sProp 𝕄) :
    iprop(iprop(toks 0 1 c r ∗ dmaPay A c 0 r ∗ (∃ Y, owns (peer c r : Thread nD τ) (rsCh r) fullShare Y))
      ∗ iprop(invs A K ∗ owing c (oweDma 3 c 0 + oweDma 1 c r.val))
      ∗ (iprop(cred (tallyAt (dCell 0 c r) () N) ∗ iprop(invs A K ∗ owing c (oweDma 3 c 0 + oweDma 1 c (r.val + 1)))) -∗ Q ⟨⟩))
      ⊢ run c (putA h6 h7 cc0_scratch2 cc0_scratch3 c r) Q := by
  rw [show (dmaPay A c 0 r : sProp 𝕄) = owns (c : Thread nD τ) (accCh (peer c r)) fullShare (part A c (peer c r)) from rfl]
  iintro ⟨⟨Ht, Hs, Hd⟩, ⟨#HI, HO⟩, HQ⟩
  iapply (put_step A K c r 0 1 (oweDma 3 c 0) _ (devA_eq c r) (accOf accM c r) (slotOf rsM r) (semAt cc0_scratch2 r) (semAt cc0_scratch3 r) rfl rfl rfl fullShare (part A c (peer c r)) r.val
    (oweDma_step 1 c r) (by rw [accOf_eq]; exact Entails.of_eq rfl) (by
      show owns _ _ _ _ ⊢ owns (peer c r : Thread nD τ) (rsCh r) fullShare (part A (src (peer c r) r) (peer c r))
      rw [src_peer]) Q)
  rw [accOf_eq]
  isplitr; · iexact HI
  isplitl [Ht]; · iexact Ht
  isplitl [Hs]; · iexact Hs
  isplitl [Hd]; · iexact Hd
  isplitl [HO]; · iexact HO
  iintro ⟨Hc, HO⟩
  iapply HQ
  isplitl [Hc]; · iexact Hc
  isplitr; · iexact HI
  iexact HO

theorem run_putA (c : Dev nD) (h6 : accM.IsWhole) (h7 : rsM.IsWhole) (Q : PUnit → sProp 𝕄) :
    iprop((bigSep Finset.univ fun r : Fin 15 => iprop(toks 0 1 c r ∗ dmaPay A c 0 r ∗ (∃ Y, owns (peer c r : Thread nD τ) (rsCh r) fullShare Y)))
      ∗ iprop(invs A K ∗ owing c (oweDma 3 c 0 + oweDma 1 c 0))
      ∗ (iprop((bigSep Finset.univ fun r : Fin 15 => cred (tallyAt (dCell 0 c r) () N)) ∗ owing c (oweDma 3 c 0)) -∗ Q ⟨⟩))
      ⊢ run c (loop 15 (putA h6 h7 cc0_scratch2 cc0_scratch3 c)) Q := by
  iintro ⟨HP, HS, HQ⟩
  iapply (run_loop c 15 _ _ (fun r => cred (tallyAt (dCell 0 c r) () N)) (fun i => iprop(invs A K ∗ owing c (oweDma 3 c 0 + oweDma 1 c i))) (fun r Q => putA_step A K c h6 h7 r Q) Q)
  isplitl [HP]; · iexact HP
  isplitl [HS]; · iexact HS
  iintro ⟨Hc, -, HO⟩
  rw [oweDma_end, add_zero]
  iapply HQ
  isplitl [Hc]; · iexact Hc
  iexact HO

/-- A cell of the device's own, its payment credited: what a wait on it needs, and what it leaves. -/
abbrev due (a : Fin 4) (c : Dev nD) (r : Fin 15) : sProp 𝕄 := iprop(cred (tallyAt (dCell a c r) () N) ∗ atPos ER (dCell a c r) 0 ∅ 0)
abbrev got (a : Fin 4) (c : Dev nD) (r : Fin 15) : sProp 𝕄 := iprop(semVal (dCell a c r) 0 ∗ dmaPay A c a r)

theorem run_getA (c : Dev nD) (h6 : accM.IsWhole) (h7 : rsM.IsWhole) (Q : PUnit → sProp 𝕄) :
    iprop((bigSep Finset.univ fun r : Fin 15 => due 1 c r) ∗ iprop(invs A K ∗ levAts L lv ∗ owing c (oweDma 3 c 0))
      ∗ (iprop((bigSep Finset.univ fun r : Fin 15 => got A 1 c r) ∗ owing c (oweDma 3 c 0)) -∗ Q ⟨⟩))
      ⊢ run c (loop 15 (getA h6 h7 cc0_scratch3)) Q := by
  iintro ⟨HP, HS, HQ⟩
  iapply (run_loop c 15 _ (fun r => due 1 c r) (fun r => got A 1 c r) (fun _ => iprop(invs A K ∗ levAts L lv ∗ owing c (oweDma 3 c 0))) (fun r Q => by
    iintro ⟨Hd, ⟨#HI, #Hl, HO⟩, HQ⟩
    iapply (get_step A K c r 1 (oweDma 3 c 0) (semAt cc0_scratch3 r) rfl (mayWait_recvA c r) (acc0 accM) (slotOf rsM r) rfl Q)
    isplitr; · iexact HI
    isplitr; · iexact Hl
    isplitl [Hd]; · iexact Hd
    isplitl [HO]; · iexact HO
    iintro ⟨Hg, HO⟩
    iapply HQ
    isplitl [Hg]; · iexact Hg
    isplitr; · iexact HI
    isplitr; · iexact Hl
    iexact HO) Q)
  isplitl [HP]; · iexact HP
  isplitl [HS]; · iexact HS
  iintro ⟨Hg, -, -, HO⟩
  iapply HQ
  isplitl [Hg]; · iexact Hg
  iexact HO

theorem putB_step (c : Dev nD) (h5 : outM.IsWhole) (r : Fin 15) (Q : PUnit → sProp 𝕄) :
    iprop(iprop(toks 2 3 c r ∗ (∃ Y, owns (peer c r : Thread nD τ) (outCh c) fullShare Y))
      ∗ iprop(invs A K ∗ owns (c : Thread nD τ) (outCh c) (rest r.val) (red A c) ∗ owing c (0 + oweDma 3 c r.val))
      ∗ (iprop(cred (tallyAt (dCell 2 c r) () N) ∗ iprop(invs A K ∗ owns (c : Thread nD τ) (outCh c) (rest (r.val + 1)) (red A c) ∗ owing c (0 + oweDma 3 c (r.val + 1)))) -∗ Q ⟨⟩))
      ⊢ run c (putB h5 cc0_scratch4 cc0_scratch5 c r) Q := by
  iintro ⟨⟨Ht, Hd⟩, ⟨#HI, Hs, HO⟩, HQ⟩
  ihave Hs := (owns_halves (c : Thread nD τ) (outCh c) (rest r.val) (red A c)).1 $$ Hs
  icases Hs with ⟨Hs, Hs'⟩
  iapply (put_step A K c r 2 3 0 _ (devB_eq c r) (outMe outM c) (outMe outM c) (semAt cc0_scratch4 r) (semAt cc0_scratch5 r) rfl rfl rfl (rest r.val).left (red A c) r.val
    (oweDma_step 3 c r) (by rw [outMe_eq]; exact Entails.of_eq rfl) (by
      show owns _ _ _ _ ⊢ owns (peer c r : Thread nD τ) (outCh (src (peer c r) r)) fullShare (red A (src (peer c r) r))
      rw [src_peer, outMe_eq]) Q)
  rw [outMe_eq]
  isplitr; · iexact HI
  isplitl [Ht]; · iexact Ht
  isplitl [Hs]; · iexact Hs
  isplitl [Hd]; · iexact Hd
  isplitl [HO]; · iexact HO
  iintro ⟨Hc, HO⟩
  iapply HQ
  isplitl [Hc]; · iexact Hc
  isplitr; · iexact HI
  isplitl [Hs']; · iexact Hs'
  iexact HO

theorem run_putB (c : Dev nD) (h5 : outM.IsWhole) (Q : PUnit → sProp 𝕄) :
    iprop((bigSep Finset.univ fun r : Fin 15 => iprop(toks 2 3 c r ∗ (∃ Y, owns (peer c r : Thread nD τ) (outCh c) fullShare Y)))
      ∗ iprop(invs A K ∗ owns (c : Thread nD τ) (outCh c) fullShare (red A c) ∗ owing c (oweDma 3 c 0))
      ∗ (iprop((bigSep Finset.univ fun r : Fin 15 => cred (tallyAt (dCell 2 c r) () N)) ∗ owns (c : Thread nD τ) (outCh c) (rest 15) (red A c) ∗ owing c 0) -∗ Q ⟨⟩))
      ⊢ run c (loop 15 (putB h5 cc0_scratch4 cc0_scratch5 c)) Q := by
  have e : oweDma 3 c 0 = 0 + oweDma 3 c 0 := (zero_add _).symm
  rw [e]
  iintro ⟨HP, HS, HQ⟩
  iapply (run_loop c 15 _ _ (fun r => cred (tallyAt (dCell 2 c r) () N)) (fun i => iprop(invs A K ∗ owns (c : Thread nD τ) (outCh c) (rest i) (red A c) ∗ owing c (0 + oweDma 3 c i))) (fun r Q => putB_step A K c h5 r Q) Q)
  isplitl [HP]; · iexact HP
  isplitl [HS]; · iexact HS
  iintro ⟨Hc, -, Ho, HO⟩
  rw [oweDma_end, add_zero]
  iapply HQ
  isplitl [Hc]; · iexact Hc
  isplitl [Ho]; · iexact Ho
  iexact HO

theorem run_getB (c : Dev nD) (h5 : outM.IsWhole) (Q : PUnit → sProp 𝕄) :
    iprop((bigSep Finset.univ fun r : Fin 15 => due 3 c r) ∗ iprop(invs A K ∗ levAts L lv ∗ owing c 0)
      ∗ (iprop((bigSep Finset.univ fun r : Fin 15 => got A 3 c r) ∗ owing c 0) -∗ Q ⟨⟩))
      ⊢ run c (loop 15 (getB h5 cc0_scratch5 c)) Q := by
  iintro ⟨HP, HS, HQ⟩
  iapply (run_loop c 15 _ (fun r => due 3 c r) (fun r => got A 3 c r) (fun _ => iprop(invs A K ∗ levAts L lv ∗ owing c 0)) (fun r Q => by
    iintro ⟨Hd, ⟨#HI, #Hl, HO⟩, HQ⟩
    iapply (get_step A K c r 3 0 (semAt cc0_scratch5 r) rfl (by rw [MayWait_zero]; iintro -; iempintro) (outMe outM c) (outOf outM c r) rfl Q)
    isplitr; · iexact HI
    isplitr; · iexact Hl
    isplitl [Hd]; · iexact Hd
    isplitl [HO]; · iexact HO
    iintro ⟨Hg, HO⟩
    iapply HQ
    isplitl [Hg]; · iexact Hg
    isplitr; · iexact HI
    isplitr; · iexact Hl
    iexact HO) Q)
  isplitl [HP]; · iexact HP
  isplitl [HS]; · iexact HS
  iintro ⟨Hg, -, -, HO⟩
  iapply HQ
  isplitl [Hg]; · iexact Hg
  iexact HO

theorem run_sent (c : Dev nD) (h5 : outM.IsWhole) (h6 : accM.IsWhole) (h7 : rsM.IsWhole) (Q : PUnit → sProp 𝕄) :
    iprop((bigSep Finset.univ fun r : Fin 15 => iprop(due 0 c r ∗ due 2 c r)) ∗ iprop(invs A K ∗ levAts L lv ∗ owing c 0)
      ∗ (iprop((bigSep Finset.univ fun r : Fin 15 => iprop(got A 0 c r ∗ got A 2 c r)) ∗ owing c 0) -∗ Q ⟨⟩))
      ⊢ run c (loop 15 (sentR h5 h6 h7 cc0_scratch2 cc0_scratch4 c)) Q := by
  iintro ⟨HP, HS, HQ⟩
  iapply (run_loop c 15 _ (fun r => iprop(due 0 c r ∗ due 2 c r)) (fun r => iprop(got A 0 c r ∗ got A 2 c r)) (fun _ => iprop(invs A K ∗ levAts L lv ∗ owing c 0)) (fun r Q => by
    unfold sentR run
    iintro ⟨⟨Hd, Hd'⟩, ⟨#HI, #Hl, HO⟩, HQ⟩
    rw [wp_bind]
    iapply (get_step A K c r 0 0 (semAt cc0_scratch2 r) rfl (by rw [MayWait_zero]; iintro -; iempintro) (slotOf rsM r) (acc0 accM) rfl)
    isplitr; · iexact HI
    isplitr; · iexact Hl
    isplitl [Hd]; · iexact Hd
    isplitl [HO]; · iexact HO
    iintro ⟨Hg, HO⟩
    iapply (get_step A K c r 2 0 (semAt cc0_scratch4 r) rfl (by rw [MayWait_zero]; iintro -; iempintro) (out0 outM) (outMe outM c) rfl Q)
    isplitr; · iexact HI
    isplitr; · iexact Hl
    isplitl [Hd']; · iexact Hd'
    isplitl [HO]; · iexact HO
    iintro ⟨Hg', HO⟩
    iapply HQ
    isplitl [Hg Hg']
    · isplitl [Hg]; · iexact Hg
      iexact Hg'
    isplitr; · iexact HI
    isplitr; · iexact Hl
    iexact HO) Q)
  isplitl [HP]; · iexact HP
  isplitl [HS]; · iexact HS
  iintro ⟨Hg, -, -, HO⟩
  iapply HQ
  isplitl [Hg]; · iexact Hg
  iexact HO

/-! ## The shares of the second exchange's source, rejoined -/

theorem rest_add : ∀ (k : ℕ), ∀ (n : ℕ) (c : Dev nD) (m : Memref sig .tc .vmem S1x16x512 .bf16) (X : Chunk F),
    iprop((bigSep Finset.univ fun r : Fin n => owns (c : Thread nD τ) m (rest (k + r.val)).left X) ∗ owns (c : Thread nD τ) m (rest (k + n)) X) ⊢ (owns (c : Thread nD τ) m (rest k) X : sProp 𝕄)
  | k, 0, c, m, X => by iintro ⟨-, H⟩; iexact H
  | k, n + 1, c, m, X => by
    rw [bigSep_fin_succ]
    iintro ⟨⟨H, HP⟩, HR⟩
    iapply (owns_halves (c : Thread nD τ) m (rest k) X).2
    isplitl [H]; · iexact H
    have h := rest_add (k + 1) n c m X
    have e : ∀ j, k + 1 + j = k + (j + 1) := fun j => by omega
    simp only [e] at h
    iapply h
    isplitl [HP]; · iexact HP
    iexact HR

theorem own_join (c : Dev nD) : iprop((bigSep Finset.univ fun r : Fin 15 => dmaPay A c 2 r) ∗ owns (c : Thread nD τ) (outCh c) (rest 15) (red A c))
    ⊢ (owns (c : Thread nD τ) (outCh c) fullShare (red A c) : sProp 𝕄) := by
  have h := rest_add (F := F) 0 15 c (outCh c) (red A c)
  simp only [Nat.zero_add] at h
  exact h

/-! ## The whole body -/

/-- What a device is dealt when the kernel starts: the right to pay each peer's barrier and both exchanges' cells, its own arrivals' credits, its barrier's place. -/
def kit (c : Dev nD) : sProp 𝕄 :=
  iprop((bigSep Finset.univ fun r : Fin 15 => dutyTok ER (barCell (peer c r)) 0 (Fin.rev r))
    ∗ (bigSep Finset.univ fun r : Fin 15 => dutyTok ER (dCell 0 c r) 0 0) ∗ (bigSep Finset.univ fun r : Fin 15 => dutyTok ER (dCell 1 (peer c r) r) 0 0)
    ∗ (bigSep Finset.univ fun r : Fin 15 => dutyTok ER (dCell 2 c r) 0 0) ∗ (bigSep Finset.univ fun r : Fin 15 => dutyTok ER (dCell 3 (peer c r) r) 0 0)
    ∗ cred (tallyAt (barCell c) () 15) ∗ (bigSep Finset.univ fun r : Fin 15 => cred (tallyAt (dCell 1 c r) () N)) ∗ (bigSep Finset.univ fun r : Fin 15 => cred (tallyAt (dCell 3 c r) () N))
    ∗ atPos ER (barCell c) 0 ∅ 0)

/-- A device's own cells of one array: opened, and closed. -/
abbrev opened (a : Fin 4) (c : Dev nD) : sProp 𝕄 := bigSep Finset.univ fun r : Fin 15 => iprop(atPos ER (dCell a c r) 0 ∅ 0 ∗ reached ER (dCell a c r) 0)
abbrev closed (a : Fin 4) (c : Dev nD) : sProp 𝕄 := bigSep Finset.univ fun r : Fin 15 => semVal (dCell a c r) 0

theorem lists (Φ Ψ : Fin 15 → sProp 𝕄) : (bigSep Finset.univ fun r => iprop(Φ r ∗ Ψ r)) = iprop(bigSep Finset.univ Φ ∗ bigSep Finset.univ Ψ) :=
  bigSep_sep Finset.univ Φ Ψ

theorem run_deviceId (c : Dev nD) (k : Dev nD → Prog (TpuEff nD τ sig (Elt F) Λ₀ .tc) PUnit) (Q : PUnit → sProp 𝕄) :
    run c (k c) Q ⊢ run c (Prog.lift .deviceId >>= k) Q := by
  show _ ⊢ wp frame (wpE defs₀ 𝒱₀ (c : Thread nD τ) none) Set.univ (.op .deviceId k) Q
  rw [wp_deviceId]

theorem barPay_mine (c : Dev nD) (r : Fin 15) : (barPay (peer c r) (Fin.rev r) : sProp 𝕄)
    = iprop((∃ X, owns (c : Thread nD τ) (rsCh (Fin.rev r)) fullShare X) ∗ (∃ X, owns (c : Thread nD τ) (outCh (peer c r)) fullShare X)
      ∗ reached ER (dCell 1 c (Fin.rev r)) 0 ∗ reached ER (dCell 3 c (Fin.rev r)) 0) := by
  unfold barPay; rw [peer_peer_rev]

/-- What a device pays to its peers' barriers, list by list. -/
theorem pays (c : Dev nD) : (bigSep Finset.univ fun r : Fin 15 => iprop(dutyTok ER (barCell (peer c r)) 0 (Fin.rev r) ∗ barPay (peer c r) (Fin.rev r)) : sProp 𝕄)
    = iprop((bigSep Finset.univ fun r : Fin 15 => dutyTok ER (barCell (peer c r)) 0 (Fin.rev r)) ∗ (bigSep Finset.univ fun r : Fin 15 => iprop(∃ X, owns (c : Thread nD τ) (rsCh r) fullShare X))
      ∗ (bigSep Finset.univ fun r : Fin 15 => iprop(∃ X, owns (c : Thread nD τ) (outCh (peer c r)) fullShare X))
      ∗ (bigSep Finset.univ fun r : Fin 15 => reached ER (dCell 1 c r) 0) ∗ (bigSep Finset.univ fun r : Fin 15 => reached ER (dCell 3 c r) 0)) := by
  simp only [barPay_mine, lists]
  rw [bigSep_rev fun r => iprop(∃ X, owns (c : Thread nD τ) (rsCh r) fullShare X), bigSep_rev fun r => reached ER (dCell 1 c r) 0, bigSep_rev fun r => reached ER (dCell 3 c r) 0]

/-- What a device's barrier brings, list by list. -/
theorem brings (c : Dev nD) : (bigSep Finset.univ fun r : Fin 15 => barPay (F := F) c r)
    = iprop((bigSep Finset.univ fun r : Fin 15 => iprop(∃ X, owns (peer c r : Thread nD τ) (rsCh r) fullShare X)) ∗ (bigSep Finset.univ fun r : Fin 15 => iprop(∃ X, owns (peer c r : Thread nD τ) (outCh c) fullShare X))
      ∗ (bigSep Finset.univ fun r : Fin 15 => reached ER (dCell 1 (peer c r) r) 0) ∗ (bigSep Finset.univ fun r : Fin 15 => reached ER (dCell 3 (peer c r) r) 0)) := by
  unfold barPay
  simp only [lists]

section Whole

variable (X₀ : S2x128x512.Idx → Elt F .bf16) (X₁ : S512x256.Idx → Elt F .bf16) (X₂ X₃ : S2x128x256.Idx → Elt F .bf16) (X₄ : S256x512.Idx → Elt F .bf16)

theorem run_body (c : Dev nD) (hA : A c = accv X₀ X₁ X₂ X₃ X₄) (arg0 : Memref sig .tc .vmem S2x128x512 .bf16) (harg0 : arg0.IsWhole) (arg1 : Memref sig .tc .vmem S512x256 .bf16) (harg1 : arg1.IsWhole)
    (arg2 : Memref sig .tc .vmem S2x128x256 .bf16) (harg2 : arg2.IsWhole) (arg3 : Memref sig .tc .vmem S2x128x256 .bf16) (harg3 : arg3.IsWhole)
    (arg4 : Memref sig .tc .vmem S256x512 .bf16) (harg4 : arg4.IsWhole) (h5 : outM.IsWhole) (h6 : accM.IsWhole) (h7 : rsM.IsWhole) (Q : PUnit → sProp 𝕄) :
    iprop(invs A K ∗ levAts L lv ∗ kit c ∗ iprop(opened 0 c ∗ opened 1 c ∗ opened 2 c ∗ opened 3 c)
      ∗ ins X₀ X₁ X₂ X₃ X₄ c arg0 arg1 arg2 arg3 arg4 ∗ (∃ X, owns (c : Thread nD τ) accM fullShare X) ∗ (∃ X, owns (c : Thread nD τ) rsM fullShare X) ∗ (∃ X, owns (c : Thread nD τ) outM fullShare X)
      ∗ owing c (O₀ c)
      ∗ (iprop(semVal (barCell c) 0 ∗ iprop(closed 0 c ∗ closed 1 c ∗ closed 2 c ∗ closed 3 c)
        ∗ ins X₀ X₁ X₂ X₃ X₄ c arg0 arg1 arg2 arg3 arg4 ∗ (∃ X, owns (c : Thread nD τ) accM fullShare X) ∗ (∃ X, owns (c : Thread nD τ) rsM fullShare X) ∗ owns (c : Thread nD τ) outM fullShare (outv A)
        ∗ owing c 0) -∗ Q ⟨⟩))
      ⊢ run c (prog arg0 harg0 arg1 harg1 arg2 harg2 arg3 harg3 arg4 harg4 outM h5 accM h6 rsM h7 cc0_scratch2 cc0_scratch3 cc0_scratch4 cc0_scratch5) Q := by
  unfold kit prog
  simp only [opened, lists]
  iintro ⟨#HI, #Hl, ⟨Tb, T0, T1, T2, T3, Cb, C1, C3, Hb⟩, ⟨⟨P0, R0⟩, ⟨P1, R1⟩, ⟨P2, R2⟩, ⟨P3, R3⟩⟩, Hin, Hacc, ⟨%Xr, Hrs⟩, ⟨%Xo, Hout⟩, HO, HQ⟩
  ihave Hrs := (rs_split c Xr) $$ Hrs
  icases Hrs with ⟨⟨%Y, Hrs0⟩, Hrs⟩
  ihave Hout := (out_split c Xo) $$ Hout
  icases Hout with ⟨Hout0, Hout⟩
  iapply (run_deviceId c)
  unfold run
  rw [wp_bind]
  iapply (run_signals A K c (oweDma 3 c 0 + oweDma 1 c 0))
  isplitl [Tb Hrs Hout R1 R3]
  · rw [pays]
    isplitl [Tb]; · iexact Tb
    isplitl [Hrs]; · iexact Hrs
    isplitl [Hout]; · iexact Hout
    isplitl [R1]; · iexact R1
    iexact R3
  isplitl [HO]
  · isplitr; · iexact HI
    iexact HO
  iintro HO
  rw [wp_bind]
  iapply (run_compute X₀ X₁ X₂ X₃ X₄ c arg0 harg0 arg1 harg1 arg2 harg2 arg3 harg3 arg4 harg4 h6)
  isplitl [Hin]; · iexact Hin
  isplitl [Hacc]; · iexact Hacc
  iintro ⟨Hin, Hacc⟩
  rw [← hA]
  ihave Hacc := (acc_split A c) $$ Hacc
  icases Hacc with ⟨Hacc0, Hacc⟩
  rw [wp_bind]
  iapply (bar_wait A K c)
  isplitr; · iexact HI
  isplitr; · iexact Hl
  isplitl [Cb]; · iexact Cb
  isplitl [Hb]; · iexact Hb
  isplitl [HO]; · iexact HO
  iintro ⟨Sb, Hpay, HO⟩
  ihave Hpay := (Entails.of_eq (brings c)) $$ Hpay
  icases Hpay with ⟨Hrs, Hout, R1, R3⟩
  rw [wp_bind]
  iapply (run_putA A K c h6 h7)
  simp only [toks, lists]
  isplitl [T0 T1 R0 R1 Hacc Hrs]
  · isplitl [T0 T1 R0 R1]
    · isplitl [T0]; · iexact T0
      isplitl [R0]; · iexact R0
      isplitl [T1]; · iexact T1
      iexact R1
    isplitl [Hacc]; · iexact Hacc
    iexact Hrs
  isplitl [HO]
  · isplitr; · iexact HI
    iexact HO
  iintro ⟨C0, HO⟩
  rw [wp_bind]
  iapply (run_getA A K c h6 h7)
  simp only [due, got, lists]
  isplitl [C1 P1]
  · isplitl [C1]; · iexact C1
    iexact P1
  isplitl [HO]
  · isplitr; · iexact HI
    isplitr; · iexact Hl
    iexact HO
  iintro ⟨⟨S1, Hrs⟩, HO⟩
  rw [wp_bind]
  ihave Hrs := (rs_join A c Y) $$ [Hrs0 Hrs]
  · isplitl [Hrs0]; · iexact Hrs0
    iexact Hrs
  iapply (run_reduce A c h5 Y)
  isplitl [Hacc0]; · iexact Hacc0
  isplitl [Hrs]; · iexact Hrs
  isplitl [Hout0]; · iexact Hout0
  iintro ⟨Hacc0, Hrs, Hout0⟩
  rw [wp_bind]
  iapply (run_putB A K c h5)
  simp only [toks, lists]
  isplitl [T2 T3 R2 R3 Hout]
  · isplitl [T2 T3 R2 R3]
    · isplitl [T2]; · iexact T2
      isplitl [R2]; · iexact R2
      isplitl [T3]; · iexact T3
      iexact R3
    iexact Hout
  isplitl [Hout0 HO]
  · isplitr; · iexact HI
    isplitl [Hout0]; · iexact Hout0
    iexact HO
  iintro ⟨C2, Hout0, HO⟩
  rw [wp_bind]
  iapply (run_getB A K c h5)
  simp only [due, got, lists]
  isplitl [C3 P3]
  · isplitl [C3]; · iexact C3
    iexact P3
  isplitl [HO]
  · isplitr; · iexact HI
    isplitr; · iexact Hl
    iexact HO
  iintro ⟨⟨S3, Hout⟩, HO⟩
  iapply (run_sent A K c h5 h6 h7)
  simp only [due, got, lists]
  isplitl [C0 P0 C2 P2]
  · isplitl [C0 P0]
    · isplitl [C0]; · iexact C0
      iexact P0
    isplitl [C2]; · iexact C2
    iexact P2
  isplitl [HO]
  · isplitr; · iexact HI
    isplitr; · iexact Hl
    iexact HO
  iintro ⟨⟨⟨S0, Hacc⟩, ⟨S2, Hown⟩⟩, HO⟩
  iapply HQ
  isplitl [Sb]; · iexact Sb
  isplitl [S0 S1 S2 S3]
  · isplitl [S0]; · iexact S0
    isplitl [S1]; · iexact S1
    isplitl [S2]; · iexact S2
    iexact S3
  isplitl [Hin]; · iexact Hin
  isplitl [Hacc0 Hacc]
  · iexists _
    iapply (acc_join A c)
    isplitl [Hacc0]; · iexact Hacc0
    iexact Hacc
  isplitl [Hrs]; · iexists _; iexact Hrs
  isplitr [HO]
  · iapply (out_join A c)
    isplitr [Hout]
    · iapply (own_join A c)
      isplitl [Hown]; · iexact Hown
      iexact Hout0
    iexact Hout
  iexact HO

end Whole

end Cert.K

end
-- ==== Proof.Region.lean ====
/- The kernel's region: its windows' contents, what goes in and out of its one grid point, and the buffers around it. -/
module

public import proofs.«01_k».proof.Proof.Run
public import proofs.«01_k».proof.Proof.Gen.KernelIdeal.Regions
public import Idealize.ShloMosaic.Lib.Pipeline.RegionTalk
public import Idealize.ShloMosaic.Lib.Pipeline.ValueKit.Geometry

@[expose] public section

set_option maxRecDepth 16384

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## Contents -/

/-- What device `c`'s kernel reads: the activations, its slice of the query projection, its heads' keys and values, its rows of the output projection. -/
abbrev inX (c : Dev nD) : S2x128x512.Idx → Elt F .bf16 := V1 m c main_arg0
abbrev inWq (c : Dev nD) : S512x256.Idx → Elt F .bf16 := V1 m c main_v9
abbrev inK (c : Dev nD) : S2x128x256.Idx → Elt F .bf16 := V1 m c main_v15
abbrev inV (c : Dev nD) : S2x128x256.Idx → Elt F .bf16 := V1 m c main_v16
abbrev inWo (c : Dev nD) : S256x512.Idx → Elt F .bf16 := V1 m c main_v14

/-- Every device's partial products. -/
def accs (c : Dev nD) : Acc F := accv (inX m c) (inWq m c) (inK m c) (inV m c) (inWo m c)

/-- The kernel's result, the same on every device. -/
def res : S2x128x512.Idx → Elt F .bf16 := outv (accs m)

/-- What the region leaves: the result. -/
def outs : Outs (F := F) := fun _ r c => if h : r = main_v17 then h ▸ (res m : Buf (Elt F) ((c : Thread nD τ).loc main_v17)) else m ((c : Thread nD τ).loc r)

theorem outs_res (c : Dev nD) : outs m 2 main_v17 c = (res m : Buf (Elt F) ((c : Thread nD τ).loc main_v17)) := dif_pos rfl

theorem V2_res (c : Dev nD) : V2 m (outs m) c main_v17 = (res m : Buf (Elt F) ((c : Thread nD τ).loc main_v17)) :=
  (Function.update_self ..).trans (outs_res m c)

/-! ## The kernel's own semaphores -/

/-- The four arrays of sixteen transfer semaphores. -/
def osem (k : Fin 4 × Fin 16) : SemLoc sig := .dma (match k.1 with
  | 0 => (⟨6 + k.2.val, by show _ < 70; omega⟩ : DmaSem sig)
  | 1 => ⟨22 + k.2.val, by show _ < 70; omega⟩
  | 2 => ⟨38 + k.2.val, by show _ < 70; omega⟩
  | 3 => ⟨54 + k.2.val, by show _ < 70; omega⟩)

theorem osem_succ : ∀ (a : Fin 4) (r : Fin 15), osem (a, r.succ) = .dma (dsem a r) := by decide +kernel
theorem osem_facts : Pipeline.OwnSemFacts spec0 osem := by decide +kernel

/-- Entry 0 of an array: never touched. -/
abbrev idle (a : Fin 4) (c : Dev nD) : sProp 𝕄 := semVal ((c : Thread nD τ), osem (a, 0)) 0

theorem ownSems_eq (c : Dev nD) : (Pipeline.ownSems0 osem c : sProp 𝕄)
    = iprop((idle 0 c ∗ closed 0 c) ∗ (idle 1 c ∗ closed 1 c) ∗ (idle 2 c ∗ closed 2 c) ∗ (idle 3 c ∗ closed 3 c)) := by
  have row (a : Fin 4) : (bigSep Finset.univ fun i : Fin 16 => (semVal ((c : Thread nD τ), osem (a, i)) 0 : sProp 𝕄)) = iprop(idle a c ∗ closed a c) := by
    rw [bigSep_fin_succ]; simp only [osem_succ]
  show (bigSep Finset.univ fun k : Fin 4 × Fin 16 => (semVal ((c : Thread nD τ), osem k) 0 : sProp 𝕄)) = _
  rw [bigSep_univ_prod]
  simp only [row]
  rw [bigSep_univ_eq_bigSepL [(0 : Fin 4), 1, 2, 3] (by decide) (by decide)]
  rfl

/-- The untouched entries. -/
def idles (c : Dev nD) : sProp 𝕄 := iprop(idle 0 c ∗ idle 1 c ∗ idle 2 c ∗ idle 3 c)
/-- Every other entry, closed. -/
def closeds (c : Dev nD) : sProp 𝕄 := iprop(closed 0 c ∗ closed 1 c ∗ closed 2 c ∗ closed 3 c)

theorem ownSems_split (c : Dev nD) : (Pipeline.ownSems0 osem c : sProp 𝕄) ⊢ iprop(idles c ∗ closeds c) := by
  rw [ownSems_eq]; unfold idles closeds
  iintro ⟨⟨I0, C0⟩, ⟨I1, C1⟩, ⟨I2, C2⟩, ⟨I3, C3⟩⟩
  isplitl [I0 I1 I2 I3]
  · isplitl [I0]; · iexact I0
    isplitl [I1]; · iexact I1
    isplitl [I2]; · iexact I2
    iexact I3
  isplitl [C0]; · iexact C0
  isplitl [C1]; · iexact C1
  isplitl [C2]; · iexact C2
  iexact C3
theorem ownSems_join (c : Dev nD) : iprop(idles c ∗ closeds c) ⊢ (Pipeline.ownSems0 osem c : sProp 𝕄) := by
  rw [ownSems_eq]; unfold idles closeds
  iintro ⟨⟨I0, I1, I2, I3⟩, ⟨C0, C1, C2, C3⟩⟩
  isplitl [I0 C0]; · isplitl [I0] <;> iassumption
  isplitl [I1 C1]; · isplitl [I1] <;> iassumption
  isplitl [I2 C2]; · isplitl [I2] <;> iassumption
  isplitl [I3] <;> iassumption

/-- The rights to open a device's own cells of one array, and of all four. -/
abbrev opens (a : Fin 4) (c : Dev nD) : sProp 𝕄 := bigSep Finset.univ fun r : Fin 15 => openTok ER (dCell a c r)
def rights (c : Dev nD) : sProp 𝕄 := iprop(opens 0 c ∗ opens 1 c ∗ opens 2 c ∗ opens 3 c)
def openeds (c : Dev nD) : sProp 𝕄 := iprop(opened 0 c ∗ opened 1 c ∗ opened 2 c ∗ opened 3 c)

section Open

variable (A : Dev nD → Acc F) (K : GSem nD τ sig → ℕ)

theorem open_one (a : Fin 4) (c : Dev nD) (r : Fin 15) :
    iprop(invs A K ∗ iprop(openTok ER (dCell a c r) ∗ semVal (dCell a c r) 0)) ⊢ (|={Set.univ}=> iprop(atPos ER (dCell a c r) 0 ∅ 0 ∗ reached ER (dCell a c r) 0) : sProp 𝕄) := by
  iintro ⟨HI, Ho, Hs⟩
  ihave HI := (invs_dma A K a c r) $$ HI
  imod (Rounds.cell_open ER (Rd A) (g := dCell a c r) (Set.mem_univ (K (dCell a c r)))) $$ [HI Ho Hs] with ⟨Hat, Hr⟩
  · isplitl [HI]; · iexact HI
    isplitl [Ho] <;> iassumption
  imodintro
  isplitl [Hat] <;> iassumption

theorem open_row (a : Fin 4) (c : Dev nD) :
    iprop(invs A K ∗ opens a c ∗ closed a c) ⊢ (|={Set.univ}=> opened a c : sProp 𝕄) := by
  have h : iprop(invs A K ∗ bigSep Finset.univ fun r : Fin 15 => iprop(openTok ER (dCell a c r) ∗ semVal (dCell a c r) 0))
      ⊢ (bigSep Finset.univ fun r : Fin 15 => iprop(|={Set.univ}=> iprop(atPos ER (dCell a c r) 0 ∅ 0 ∗ reached ER (dCell a c r) 0)) : sProp 𝕄) :=
    bigSep_with_persistent fun r _ => open_one A K a c r
  rw [lists] at h
  exact h.trans (bigSep_fupd Finset.univ _)

theorem open_all (c : Dev nD) :
    iprop(invs A K ∗ rights c ∗ closeds c) ⊢ (|={Set.univ}=> openeds c : sProp 𝕄) := by
  unfold rights closeds openeds
  iintro ⟨#HI, ⟨O0, O1, O2, O3⟩, ⟨C0, C1, C2, C3⟩⟩
  imod (open_row A K 0 c) $$ [O0 C0] with H0
  · isplitr; · iexact HI
    isplitl [O0] <;> iassumption
  imod (open_row A K 1 c) $$ [O1 C1] with H1
  · isplitr; · iexact HI
    isplitl [O1] <;> iassumption
  imod (open_row A K 2 c) $$ [O2 C2] with H2
  · isplitr; · iexact HI
    isplitl [O2] <;> iassumption
  imod (open_row A K 3 c) $$ [O3 C3] with H3
  · isplitr; · iexact HI
    isplitl [O3] <;> iassumption
  imodintro
  isplitl [H0]; · iexact H0
  isplitl [H1]; · iexact H1
  isplitl [H2] <;> iassumption

end Open

/-! ## The region -/

/-- What the launch keeps for the region, what enters its invariant, and what it leaves. -/
def Tk (c : Dev nD) : sProp 𝕄 := iprop((∃ K, invs (accs m) K) ∗ kit c ∗ rights c)
def Xk (c : Dev nD) : sProp 𝕄 := iprop((∃ K, invs (accs m) K) ∗ levAts L lv ∗ kit c ∗ openeds c ∗ idles c)
def Yk (c : Dev nD) : sProp 𝕄 := semVal (barCell c) 0

/-- The two scratch buffers and the generator register. -/
def scr (c : Dev nD) : sProp 𝕄 :=
  iprop(((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)) ∗ ∃ r, prngReg c r)

theorem hopen (c : Dev nD) : iprop(Tk m c ∗ Pipeline.ownSems0 osem c ∗ levAts L lv) ⊢ (|={Set.univ}=> Xk m c : sProp 𝕄) := by
  unfold Tk Xk
  iintro ⟨⟨⟨%K, #HI⟩, Hk, Hr⟩, Hs, #Hl⟩
  ihave Hs := (ownSems_split c) $$ Hs
  icases Hs with ⟨Hi, Hc⟩
  imod (open_all (accs m) K c) $$ [Hr Hc] with Ho
  · isplitr; · iexact HI
    isplitl [Hr] <;> iassumption
  imodintro
  isplitr; · iexists K; iexact HI
  isplitr; · iexact Hl
  isplitl [Hk]; · iexact Hk
  isplitl [Ho] <;> iassumption

/-- The windows' arrays at entry. -/
def arrs (c : Dev nD) : (w : Fin cfg0.W) → Buf (Elt F) ((cfg0.win w).arr.view.loc (c.tc : Thread nD τ))
  | 0 => V1 m c main_arg0
  | 1 => V1 m c main_v9
  | 2 => V1 m c main_v15
  | 3 => V1 m c main_v16
  | 4 => V1 m c main_v14
  | 5 => V1 m c main_v17
  | ⟨_ + 6, h⟩ => absurd h (Nat.not_lt.2 (Nat.le_add_left _ _))

/-- What the body leaves in each staging buffer. -/
def left (c : Dev nD) : (w : Fin cfg0.W) → (cfg0.win w).block.Idx → Elt F (cfg0.win w).elt
  | 0 => inX m c
  | 1 => inWq m c
  | 2 => inK m c
  | 3 => inV m c
  | 4 => inWo m c
  | 5 => res m
  | ⟨_ + 6, h⟩ => absurd h (Nat.not_lt.2 (Nat.le_add_left _ _))

def dat (c : Dev nD) : Dat τ (Elt F) Unit ℕ UU ℕ cfg0 c where
  A := arrs m c
  after w _ := left m c w
  Φ t := if t.val = 0 then iprop(Xk m c ∗ scr c) else iprop(Yk c ∗ closeds c ∗ idles c ∗ scr c)
  q _ := fullShare
  owed t := if t.val = 0 then O₀ c else 0

def pdats : (p : Fin 1) → (c : Dev nD) → Dat τ (Elt F) Unit ℕ UU ℕ (cfgs p) c := fun _ => dat m

theorem t_first : (t0_0.castSucc : Fin (cfg0.N + 1)).val = 0 := rfl
theorem last_ne : (Fin.last cfg0.N).val ≠ 0 := by rw [Fin.val_last, show cfg0.N = 1 from N_0]; decide
theorem succ_ne : (t0_0.succ : Fin (cfg0.N + 1)).val ≠ 0 := Nat.succ_ne_zero _

theorem owed_eq (c : Dev nD) (t : Fin (cfg0.N + 1)) : (dat (F := F) m c).owed t = if t.val = 0 then O₀ c else 0 := rfl
theorem Φ_eq (c : Dev nD) (t : Fin (cfg0.N + 1)) : (dat (F := F) m c).Φ t = if t.val = 0 then iprop(Xk m c ∗ scr c) else iprop(Yk c ∗ closeds c ∗ idles c ∗ scr c) := rfl
theorem owed_zero (c : Dev nD) : (dat (F := F) m c).owed 0 = O₀ c := by rw [owed_eq, if_pos (show (0 : Fin (cfg0.N + 1)).val = 0 from rfl)]
theorem owed_first (c : Dev nD) : (dat (F := F) m c).owed t0_0.castSucc = O₀ c := by rw [owed_eq, if_pos t_first]
theorem owed_succ (c : Dev nD) : (dat (F := F) m c).owed t0_0.succ = 0 := by rw [owed_eq, if_neg succ_ne]
theorem owed_last (c : Dev nD) : (dat (F := F) m c).owed (Fin.last cfg0.N) = 0 := by rw [owed_eq, if_neg last_ne]
theorem Φ_zero (c : Dev nD) : (dat (F := F) m c).Φ 0 = iprop(Xk m c ∗ scr c) := by rw [Φ_eq, if_pos (show (0 : Fin (cfg0.N + 1)).val = 0 from rfl)]
theorem Φ_first (c : Dev nD) : (dat (F := F) m c).Φ t0_0.castSucc = iprop(Xk m c ∗ scr c) := by rw [Φ_eq, if_pos t_first]
theorem Φ_succ (c : Dev nD) : (dat (F := F) m c).Φ t0_0.succ = iprop(Yk c ∗ closeds c ∗ idles c ∗ scr c) := by rw [Φ_eq, if_neg succ_ne]
theorem Φ_last (c : Dev nD) : (dat (F := F) m c).Φ (Fin.last cfg0.N) = iprop(Yk c ∗ closeds c ∗ idles c ∗ scr c) := by rw [Φ_eq, if_neg last_ne]

theorem owesAt_intro (c : Dev nD) (t : Fin (cfg0.N + 1)) (O : CellTallies nD τ sig Unit) (h0 : (dat m c).owed t = O) :
    (owing c O : sProp 𝕄) ⊢ ((dat m c).owesAt () t : sProp 𝕄) := by
  unfold Dat.owesAt Pipeline.owesWithin Dat.bound; rw [h0, show (dat m c).recorded t = Set.univ from rfl]
  iintro ⟨%W, HO⟩; iexists W; isplitr; · ipureintro; exact fun _ _ => Or.inl trivial
  iexact HO
theorem owesAt_elim (c : Dev nD) (t : Fin (cfg0.N + 1)) (O : CellTallies nD τ sig Unit) (h0 : (dat m c).owed t = O) :
    ((dat m c).owesAt () t : sProp 𝕄) ⊢ (owing c O : sProp 𝕄) := by
  unfold Dat.owesAt Pipeline.owesWithin; rw [h0]
  iintro ⟨%W, -, HO⟩; iexists W; iexact HO

/-- A fetched window holds its array. -/
theorem before_in (c : Dev nD) (w : Fin cfg0.W) (hf : (cfg0.win w).fetch t0_0 = true) (d : (cfg0.win w).block.Idx → Elt F (cfg0.win w).elt)
    (X : (cfg0.win w).block.Idx → Elt F (cfg0.win w).elt) (h : (dat m c).fetched w t0_0 d = X) : (dat m c).before w t0_0 d = X :=
  ((dat m c).before_fetched w t0_0 hf d).trans h

theorem before_0 (c : Dev nD) (d) : (dat m c).before 0 t0_0 d = inX m c :=
  before_in m c 0 (fetch0_0 _) d _ <| by
    funext j
    show V1 m c main_arg0 (((cfg0.win 0).rect t0_0).emb j) = V1 m c main_arg0 j
    congr 1; funext a; apply Fin.ext
    exact Pipeline.Window.rect_emb_val_of_index_zero _ _ _ (by revert a; decide +kernel) _
theorem before_1 (c : Dev nD) (d) : (dat m c).before 1 t0_0 d = inWq m c :=
  before_in m c 1 (fetch0_1 _) d _ <| by
    funext j
    show V1 m c main_v9 (((cfg0.win 1).rect t0_0).emb j) = V1 m c main_v9 j
    congr 1; funext a; apply Fin.ext
    exact Pipeline.Window.rect_emb_val_of_index_zero _ _ _ (by revert a; decide +kernel) _
theorem before_2 (c : Dev nD) (d) : (dat m c).before 2 t0_0 d = inK m c :=
  before_in m c 2 (fetch0_2 _) d _ <| by
    funext j
    show V1 m c main_v15 (((cfg0.win 2).rect t0_0).emb j) = V1 m c main_v15 j
    congr 1; funext a; apply Fin.ext
    exact Pipeline.Window.rect_emb_val_of_index_zero _ _ _ (by revert a; decide +kernel) _
theorem before_3 (c : Dev nD) (d) : (dat m c).before 3 t0_0 d = inV m c :=
  before_in m c 3 (fetch0_3 _) d _ <| by
    funext j
    show V1 m c main_v16 (((cfg0.win 3).rect t0_0).emb j) = V1 m c main_v16 j
    congr 1; funext a; apply Fin.ext
    exact Pipeline.Window.rect_emb_val_of_index_zero _ _ _ (by revert a; decide +kernel) _
theorem before_4 (c : Dev nD) (d) : (dat m c).before 4 t0_0 d = inWo m c :=
  before_in m c 4 (fetch0_4 _) d _ <| by
    funext j
    show V1 m c main_v14 (((cfg0.win 4).rect t0_0).emb j) = V1 m c main_v14 j
    congr 1; funext a; apply Fin.ext
    exact Pipeline.Window.rect_emb_val_of_index_zero _ _ _ (by revert a; decide +kernel) _

theorem body (c : Dev nD) : BodyObligation (dat (F := F) m c) defs₀ 𝒱₀ () Set.univ := fun t => by
  obtain rfl := fin_N0 t
  rw [bigSep_W0, bigSep_W0, Φ_first, Φ_succ]
  simp only [before_0, before_1, before_2, before_3, before_4]
  show _ ⊢ run c (cc0_body (F := F) (win0_0.stage (cfg0.slots t0_0 0)) (hstage0_0 0) (win0_1.stage (cfg0.slots t0_0 1)) (hstage0_1 0) (win0_2.stage (cfg0.slots t0_0 2)) (hstage0_2 0) (win0_3.stage (cfg0.slots t0_0 3)) (hstage0_3 0) (win0_4.stage (cfg0.slots t0_0 4)) (hstage0_4 0) outM (hstage0_5 0) accM (Memref.isWhole_whole _) rsM (Memref.isWhole_whole _) cc0_scratch2 cc0_scratch3 cc0_scratch4 cc0_scratch5) _
  rw [body_eq_prog]
  unfold Xk scr
  iintro ⟨⟨⟨⟨%K, #HI⟩, #Hl, Hk, Ho, Hi⟩, ⟨⟨%f0, Ha⟩, ⟨%f1, Hb⟩⟩, Hp⟩, HO, ⟨%d0, H0⟩, ⟨%d1, H1⟩, ⟨%d2, H2⟩, ⟨%d3, H3⟩, ⟨%d4, H4⟩, ⟨%d5, H5⟩⟩
  ihave HO := (owesAt_elim m c _ (O₀ c) (owed_first m c)) $$ HO
  iapply (run_body (accs m) K (inX m c) (inWq m c) (inK m c) (inV m c) (inWo m c) c rfl)
  isplitr; · iexact HI
  isplitr; · iexact Hl
  isplitl [Hk]; · iexact Hk
  isplitl [Ho]; · unfold openeds; iexact Ho
  isplitl [H0 H1 H2 H3 H4]
  · unfold ins
    isplitl [H0]; · iexact H0
    isplitl [H1]; · iexact H1
    isplitl [H2]; · iexact H2
    isplitl [H3]; · iexact H3
    iexact H4
  isplitl [Ha]; · iexists f0; rw [owns_whole]; iexact Ha
  isplitl [Hb]; · iexists f1; rw [owns_whole]; iexact Hb
  isplitl [H5]; · iexists _; iexact H5
  isplitl [HO]; · iexact HO
  unfold ins Yk closeds
  iintro ⟨Hbar, Hc, ⟨H0, H1, H2, H3, H4⟩, ⟨%g0, Ha⟩, ⟨%g1, Hb⟩, H5, HO⟩
  ihave Ha := (Entails.of_eq (owns_whole (c : Thread nD τ) cc0_scratch0 fullShare g0)) $$ Ha
  ihave Hb := (Entails.of_eq (owns_whole (c : Thread nD τ) cc0_scratch1 fullShare g1)) $$ Hb
  isplitl [Hbar Hc Hi Ha Hb Hp]
  · isplitl [Hbar]; · iexact Hbar
    isplitl [Hc]; · iexact Hc
    isplitl [Hi]; · iexact Hi
    isplitr [Hp]
    · isplitl [Ha]; · iexists g0; iexact Ha
      iexists g1; iexact Hb
    iexact Hp
  isplitl [HO]; · iapply (owesAt_intro m c _ 0 (owed_succ m c)); iexact HO
  isplitl [H0]; · iexact H0
  isplitl [H1]; · iexact H1
  isplitl [H2]; · iexact H2
  isplitl [H3]; · iexact H3
  isplitl [H4]; · iexact H4
  iexact H5

theorem hin (c : Dev nD) : iprop(Pipeline.scopedRest (Pipeline.pin (pcfgs (F := F)) adm 0).spec c ∗ (∃ r, prngReg c r) ∗ StableHlo.held (c.tc : Thread nD τ) ∅ (V1 m c) ∗ Xk m c)
    ⊢ ((dat m c).Φ 0 : sProp 𝕄) := by
  rw [Φ_zero]
  unfold scr
  iintro ⟨Hs, Hp, -, HX⟩
  ihave Hs := (Entails.of_eq (scopedRest0_eq c)) $$ Hs
  isplitl [HX]; · iexact HX
  isplitl [Hs] <;> iassumption

theorem hout (c : Dev nD) : ((dat m c).Φ (Fin.last cfg0.N) : sProp 𝕄)
    ⊢ iprop(Pipeline.scopedRest (Pipeline.pin (pcfgs (F := F)) adm 0).spec c ∗ (∃ r, prngReg c r) ∗ StableHlo.held (c.tc : Thread nD τ) ∅ (V2 m (outs m) c) ∗ Pipeline.ownSems0 osem c ∗ Yk c) := by
  rw [Φ_last]
  unfold scr
  iintro ⟨HY, Hc, Hi, Hs, Hp⟩
  isplitl [Hs]; · iapply (Entails.of_eq (scopedRest0_eq c).symm) $$ Hs
  isplitl [Hp]; · iexact Hp
  isplitr
  · unfold StableHlo.held; rw [bigSep_empty]; iempintro
  isplitl [Hc Hi]
  · iapply (ownSems_join c)
    isplitl [Hi] <;> iassumption
  iexact HY

theorem O₀_pos {c : Dev nD} {g : GSem nD τ sig} {u : Unit} (h : 0 < O₀ c g u) : (∃ d, g = barCell d) ∨ ∃ a d r, g = dCell a d r ∧ 0 < lv g () := by
  unfold O₀ at h
  rcases Nat.add_pos_iff_pos_or_pos.mp (show 0 < (oweDma 3 c 0 + oweDma 1 c 0) g u + oweBar c 0 g u from h) with h | h
  · rcases Nat.add_pos_iff_pos_or_pos.mp (show 0 < oweDma 3 c 0 g u + oweDma 1 c 0 g u from h) with h | h
    · obtain ⟨r, rfl⟩ := oweDma_pos h; exact .inr ⟨_, _, _, rfl, by rw [lv_dma]; decide⟩
    · obtain ⟨r, rfl⟩ := oweDma_pos h; exact .inr ⟨_, _, _, rfl, by rw [lv_dma]; decide⟩
  · by_contra hn
    push Not at hn
    refine absurd h (Nat.not_lt.mpr (Nat.le_of_eq ?_))
    unfold oweBar
    rw [Finset.sum_apply, Finsupp.finset_sum_apply]
    refine Finset.sum_eq_zero fun r _ => ?_
    split
    · rw [tallyAt_apply, if_neg (fun h => hn.1 _ h.1)]
    · rfl

theorem cut (c : Dev nD) (t : Fin (cfg0.N + 1)) (g : GSem nD τ sig) (i : Unit) (h : 0 < (dat (F := F) m c).owed t g i) :
    i ∈ L g ∧ (0 : ℕ) < lv g i := by
  rw [owed_eq] at h
  split at h
  · rcases O₀_pos h with ⟨d, rfl⟩ | ⟨a, d, r, rfl, hl⟩
    · exact ⟨by rw [L_tc]; exact Finset.mem_singleton_self _, by rw [lv_bar]; decide⟩
    · exact ⟨by rw [L_tc]; exact Finset.mem_singleton_self _, hl⟩
  · exact absurd h (Nat.lt_irrefl 0)

theorem code_stage : ∀ (w : Fin 6) (s : Fin (win0 w).nbuf), code (.dma ((win0 w).sem s)) = none := by decide +kernel

theorem arr_in (c : Dev nD) (w : Fin cfg0.W) (hw : (cfg0.win w).isOut = false) (n : ℕ) : (dat m c).arrAt w n = arrs m c w :=
  (dat m c).arrAt_in w hw n

theorem arrs_eq (c : Dev nD) : ∀ w : Fin cfg0.W, arrs m c w = V1 m c (Proc.devRef .tc (Pipeline.arrRef spec0 w))
  | 0 => rfl
  | 1 => rfl
  | 2 => rfl
  | 3 => rfl
  | 4 => rfl
  | 5 => rfl
  | ⟨_ + 6, h⟩ => absurd h (Nat.not_lt.2 (Nat.le_add_left _ _))

theorem arr_out (c : Dev nD) : (dat m c).arrAt 5 cfg0.N = (res m : Buf (Elt F) ((c : Thread nD τ).loc main_v17)) :=
  (dat m c).arrAt_eq_of_after_last 5 t0_0 (by decide +kernel) _ fun _ => rfl

theorem arrs_end (c : Dev nD) : ∀ w : Fin cfg0.W, (dat m c).arrAt w cfg0.N = V2 m (outs m) c (Proc.devRef .tc (Pipeline.arrRef spec0 w))
  | 0 => (arr_in m c 0 rfl _).trans (V2_of m (outs m) c main_arg0 (by decide)).symm
  | 1 => (arr_in m c 1 rfl _).trans (V2_of m (outs m) c main_v9 (by decide)).symm
  | 2 => (arr_in m c 2 rfl _).trans (V2_of m (outs m) c main_v15 (by decide)).symm
  | 3 => (arr_in m c 3 rfl _).trans (V2_of m (outs m) c main_v16 (by decide)).symm
  | 4 => (arr_in m c 4 rfl _).trans (V2_of m (outs m) c main_v14 (by decide)).symm
  | 5 => (arr_out m c).trans (V2_res m c).symm
  | ⟨_ + 6, h⟩ => absurd h (Nat.not_lt.2 (Nat.le_add_left _ _))

/-- The buffers that are no window's array. -/
abbrev others : Finset (DevRef τ sig) := Pipeline.ucRefs τ sig \ Pipeline.arrRefs (τ := τ) spec0

theorem V2_others (c : Dev nD) : ∀ b ∈ others, V2 m (outs m) c b = V1 m c b := fun b hb => by
  refine Function.update_of_ne (fun h => ?_) _ _
  subst h
  exact (Finset.mem_sdiff.mp hb).2 (by unfold Pipeline.arrRefs; exact Finset.mem_map_of_mem _ (Finset.mem_image.mpr ⟨5, Finset.mem_univ _, rfl⟩))

theorem share_full (c : Dev nD) : ∀ w : Fin cfg0.W, (dat m c).share w = fullShare := fun w => by
  unfold Dat.share; split <;> rfl

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem osem_facts
    ∅ others (Finset.empty_subset _) launch0.toP rfl (fun c => (body m c).loose)
    (fun _ => 0) O₀ (fun c => (owed_zero m c).trans (zero_add _).symm) (owed_last m) (fun _ => rfl) (share_full m)
    (V1 m) (V2 m (outs m)) (fun c b hb => V2_others m c b (Finset.mem_sdiff.mp hb).1)
    (Tk m) Yk (Xk m) Yk (hopen m) (hin m) (hout m)
    (fun c => by iintro H; imodintro; iexact H)
    (fun _ => 0)
    ⟨fun c w s => by rw [L_tc]; exact Finset.mem_singleton_self _, fun c w s => Nat.le_of_eq (by
        show lv ((c : Thread nD τ), .dma ((win0 w).sem s)) () = 0
        dsimp only [lv]; rw [if_neg (fun h => by cases h), code_stage]),
      fun c t g i h => cut m c t g i h⟩
    (fun _ => iprop(emp))
    (arrs_eq m) (arrs_end m)

theorem arr_sub : Pipeline.arrRefs (τ := τ) spec0 ⊆ Pipeline.ucRefs τ sig :=
  Pipeline.arrRefs_sub_ucRefs spec0 (by decide)

theorem reg_pre (c : Dev nD) : iprop(StableHlo.held (c : Thread nD τ) (Pipeline.ucRefs τ sig) (V1 m c) ∗ (Tk m c ∗ (∃ r, prngReg c r) ∗ owing c (O₀ c))) ⊢ (reg m).pre c := by
  show _ ⊢ iprop(StableHlo.held (c.tc : Thread nD τ) (Pipeline.arrRefs (τ := τ) spec0) (V1 m c) ∗ (∃ r, prngReg c r)
    ∗ (StableHlo.held (c.tc : Thread nD τ) others (V1 m c) ∗ emp) ∗ Tk m c ∗ ∃ Wd, owes (c : Thread nD τ) (0 + O₀ c) Wd)
  rw [zero_add, StableHlo.held_sub_split (c.tc : Thread nD τ) arr_sub (V1 m c)]
  iintro ⟨⟨Ha, Ho⟩, HT, Hp, HO⟩
  isplitl [Ha]; · iexact Ha
  isplitl [Hp]; · iexact Hp
  isplitl [Ho]
  · isplitl [Ho]; · iexact Ho
    iempintro
  isplitl [HT] <;> iassumption

theorem reg_post (c : Dev nD) : (reg m).post c
    ⊢ iprop((StableHlo.held (c : Thread nD τ) (Pipeline.ucRefs τ sig) (V2 m (outs m) c) ∗ semVal (barCell c) 0) ∗ owing c 0) := by
  show iprop(StableHlo.held (c.tc : Thread nD τ) (Pipeline.arrRefs (τ := τ) spec0) (V2 m (outs m) c) ∗ (∃ r, prngReg c r)
    ∗ (StableHlo.held (c.tc : Thread nD τ) others (V2 m (outs m) c) ∗ emp) ∗ Yk c ∗ ∃ Wd, owes (c : Thread nD τ) (0 : CellTallies nD τ sig Unit) Wd) ⊢ _
  rw [StableHlo.held_sub_split (c.tc : Thread nD τ) arr_sub (V2 m (outs m) c)]
  unfold Yk
  iintro ⟨Ha, -, ⟨Ho, -⟩, Hb, HO⟩
  isplitr [HO]
  · isplitl [Ha Ho]
    · isplitl [Ha] <;> iassumption
    iexact Hb
  iexact HO

end Cert.K

end
-- ==== Proof.Launch.lean ====
/- The launch: every cell's invariant made, every token and credit dealt to the device that uses it; then the whole run. -/
module

public import proofs.«01_k».proof.Proof.Region

@[expose] public section

set_option maxRecDepth 16384

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

theorem code_inj {a b : Fin 4} {r k : Fin 15} (h : (SemLoc.dma (dsem a r) : SemLoc sig) = .dma (dsem b k)) : a = b ∧ r = k := by
  have e := (code_dsem a r).symm.trans ((congrArg code h).trans (code_dsem b k))
  exact ⟨congrArg Prod.fst (Option.some.inj e), congrArg Prod.snd (Option.some.inj e)⟩

theorem dCell_inj {a b : Fin 4} {c d : Dev nD} {r k : Fin 15} (h : dCell a c r = dCell b d k) : a = b ∧ c = d ∧ r = k :=
  have e := code_inj (congrArg Prod.snd h)
  ⟨e.1, congrArg (fun g : GSem nD τ sig => g.1.1) h, e.2⟩

def barEmb : Dev nD ↪ GSem nD τ sig := ⟨fun c => barCell c, fun _ _ h => congrArg (fun g : GSem nD τ sig => g.1.1) h⟩
def dEmb : Fin 4 × Dev nD × Fin 15 ↪ GSem nD τ sig :=
  ⟨fun x => dCell x.1 x.2.1 x.2.2, fun _ _ h => Prod.ext (dCell_inj h).1 (Prod.ext (dCell_inj h).2.1 (dCell_inj h).2.2)⟩
/-- One device's transfer semaphores. -/
def semEmb : Fin 4 × Fin 15 ↪ SemLoc sig := ⟨fun x => .dma (dsem x.1 x.2), fun _ _ h => Prod.ext (code_inj h).1 (code_inj h).2⟩

abbrev barCells : Finset (GSem nD τ sig) := Finset.univ.map barEmb
abbrev dCells : Finset (GSem nD τ sig) := Finset.univ.map dEmb

def barToks : Finset (GSem nD τ sig × ℕ × Fin 15) :=
  Finset.univ.map ⟨fun x : Dev nD × Fin 15 => (barCell x.1, 0, x.2), fun _ _ h =>
    Prod.ext (congrArg (fun t : GSem nD τ sig × ℕ × Fin 15 => t.1.1.1) h) (congrArg (fun t : GSem nD τ sig × ℕ × Fin 15 => t.2.2) h)⟩
def dToks : Finset (GSem nD τ sig × ℕ × Fin 15) :=
  Finset.univ.map ⟨fun x : Fin 4 × Dev nD × Fin 15 => (dEmb x, 0, 0), fun _ _ h => dEmb.injective (congrArg Prod.fst h)⟩

theorem disjoint_cells : Disjoint (barCells : Finset (GSem nD τ sig)) dCells := by
  rw [Finset.disjoint_left]
  rintro g h₁ h₂
  obtain ⟨c, -, rfl⟩ := Finset.mem_map.mp h₁
  obtain ⟨x, -, h⟩ := Finset.mem_map.mp h₂
  exact dsem_ne_bar x.1 x.2.2 (congrArg Prod.snd h)

theorem disjoint_toks : Disjoint barToks dToks := by
  rw [Finset.disjoint_left]
  rintro t h₁ h₂
  obtain ⟨c, -, rfl⟩ := Finset.mem_map.mp h₁
  obtain ⟨x, -, h⟩ := Finset.mem_map.mp h₂
  exact dsem_ne_bar x.1 x.2.2 (congrArg (fun t : GSem nD τ sig × ℕ × Fin 15 => t.1.2) h)

/-! ## Families dealt to the devices -/

theorem four (Φ : Fin 4 → sProp 𝕄) : bigSep Finset.univ Φ = iprop(Φ 0 ∗ Φ 1 ∗ Φ 2 ∗ Φ 3) := by
  rw [bigSep_fin_succ, bigSep_fin_succ, bigSep_fin_succ, Finset.univ_unique, bigSep_singleton]; rfl

theorem rows (Φ : Fin 4 → Dev nD → Fin 15 → sProp 𝕄) :
    (bigSep Finset.univ fun x : Fin 4 × Dev nD × Fin 15 => Φ x.1 x.2.1 x.2.2)
      = iprop((bigSep Finset.univ fun c => bigSep Finset.univ (Φ 0 c)) ∗ (bigSep Finset.univ fun c => bigSep Finset.univ (Φ 1 c))
        ∗ (bigSep Finset.univ fun c => bigSep Finset.univ (Φ 2 c)) ∗ bigSep Finset.univ fun c => bigSep Finset.univ (Φ 3 c)) := by
  rw [bigSep_univ_prod, four]
  simp only [bigSep_univ_prod]

/-- Every device to its peers, and back. -/
def ring : Dev nD × Fin 15 ≃ Dev nD × Fin 15 where
  toFun x := (peer x.1 x.2, x.2)
  invFun x := (src x.1 x.2, x.2)
  left_inv x := Prod.ext (src_peer _ _) rfl
  right_inv x := Prod.ext (peer_src _ _) rfl
def meet : Dev nD × Fin 15 ≃ Dev nD × Fin 15 where
  toFun x := (peer x.1 x.2, Fin.rev x.2)
  invFun x := (peer x.1 x.2, Fin.rev x.2)
  left_inv x := Prod.ext (peer_peer_rev _ _) (Fin.rev_rev _)
  right_inv x := Prod.ext (peer_peer_rev _ _) (Fin.rev_rev _)

theorem moved (e : Dev nD × Fin 15 ≃ Dev nD × Fin 15) (Φ : Dev nD → Fin 15 → sProp 𝕄) :
    (bigSep Finset.univ fun c : Dev nD => bigSep Finset.univ fun r : Fin 15 => Φ c r)
      = bigSep Finset.univ fun c : Dev nD => bigSep Finset.univ fun r : Fin 15 => Φ (e (c, r)).1 (e (c, r)).2 := by
  rw [← bigSep_univ_prod (fun x : Dev nD × Fin 15 => Φ x.1 x.2), bigSep_univ_equiv e, bigSep_univ_prod]

/-- The tokens of the payments a device makes. -/
def tokens (c : Dev nD) : sProp 𝕄 :=
  iprop((bigSep Finset.univ fun r : Fin 15 => dutyTok ER (barCell (peer c r)) 0 (Fin.rev r))
    ∗ (bigSep Finset.univ fun r : Fin 15 => dutyTok ER (dCell 0 c r) 0 0) ∗ (bigSep Finset.univ fun r : Fin 15 => dutyTok ER (dCell 1 (peer c r) r) 0 0)
    ∗ (bigSep Finset.univ fun r : Fin 15 => dutyTok ER (dCell 2 c r) 0 0) ∗ (bigSep Finset.univ fun r : Fin 15 => dutyTok ER (dCell 3 (peer c r) r) 0 0))

theorem tokens_eq : bigSep (barToks ∪ dToks) (fun x => (dutyTok ER x.1 x.2.1 x.2.2 : sProp 𝕄)) = bigSep Finset.univ fun c : Dev nD => tokens c := by
  unfold tokens
  rw [bigSep_union disjoint_toks]
  unfold barToks dToks
  rw [bigSep_map, bigSep_map, bigSep_sep', bigSep_sep', bigSep_sep', bigSep_sep']
  refine congrArg₂ _ ?_ ?_
  · exact (bigSep_univ_prod _).trans (moved meet fun c r => dutyTok ER (barCell c) 0 r)
  · refine (rows fun a c r => dutyTok ER (dCell a c r) 0 0).trans ?_
    refine congrArg₂ _ rfl (congrArg₂ _ (moved ring fun c r => dutyTok ER (dCell 1 c r) 0 0) (congrArg₂ _ rfl ?_))
    exact moved ring fun c r => dutyTok ER (dCell 3 c r) 0 0

theorem rights_eq : bigSep dCells (fun g => (openTok ER g : sProp 𝕄)) = bigSep Finset.univ fun c : Dev nD => rights c := by
  unfold rights opens
  rw [bigSep_map, bigSep_sep', bigSep_sep', bigSep_sep']
  exact rows fun a c r => openTok ER (dCell a c r)

/-! ## The launch credit -/

theorem oweDma_at (a b : Fin 4) (d c : Dev nD) (r : Fin 15) : oweDma a d 0 (dCell b c r) () = if d = src c r then (if b = a then N else 0) else 0 := by
  unfold oweDma
  rw [Finset.sum_apply, Finsupp.finset_sum_apply, Finset.sum_eq_single r (fun k _ hk => ?_) (fun h => absurd (Finset.mem_univ _) h)]
  · rw [if_pos (Nat.zero_le _), tallyAt_apply]
    by_cases h : d = src c r
    · subst h
      rw [peer_src, if_pos rfl]
      by_cases hb : b = a
      · subst hb; rw [if_pos ⟨rfl, rfl⟩, if_pos rfl]
      · rw [if_neg (fun e => hb (dCell_inj e.1).1), if_neg hb]
    · rw [if_neg h, if_neg (fun e => h (by rw [(dCell_inj e.1).2.1, src_peer]))]
  · rw [if_pos (Nat.zero_le _), tallyAt_apply, if_neg (fun e => hk (dCell_inj e.1).2.2.symm)]

theorem oweDma_bar (a : Fin 4) (d c : Dev nD) : oweDma a d 0 (barCell c) () = 0 := by
  by_contra h
  obtain ⟨r, e⟩ := oweDma_pos (Nat.pos_of_ne_zero h)
  exact dsem_ne_bar a r (congrArg Prod.snd e).symm

theorem oweBar_bar (d c : Dev nD) : oweBar d 0 (barCell c) () = ∑ r : Fin 15, if d = src c r then 1 else 0 := by
  unfold oweBar
  rw [Finset.sum_apply, Finsupp.finset_sum_apply]
  refine Finset.sum_congr rfl fun r _ => ?_
  rw [if_pos (Nat.zero_le _), tallyAt_apply]
  refine if_congr ⟨fun e => ?_, fun e => ?_⟩ rfl rfl
  · rw [show c = peer d r from congrArg (fun g : GSem nD τ sig => g.1.1) e.1, src_peer]
  · subst e; rw [peer_src]; exact ⟨rfl, rfl⟩

theorem oweBar_dma (a : Fin 4) (d c : Dev nD) (r : Fin 15) : oweBar d 0 (dCell a c r) () = 0 := by
  unfold oweBar
  rw [Finset.sum_apply, Finsupp.finset_sum_apply]
  refine Finset.sum_eq_zero fun k _ => ?_
  rw [if_pos (Nat.zero_le _), tallyAt_apply, if_neg (fun e => dsem_ne_bar a r (congrArg Prod.snd e.1))]

theorem sum_bar (c : Dev nD) : ∑ d : Dev nD, O₀ d (barCell c) () = 15 := by
  have h : ∀ d : Dev nD, O₀ d (barCell c) () = ∑ r : Fin 15, if d = src c r then 1 else 0 := fun d => by
    show oweDma 3 d 0 (barCell c) () + oweDma 1 d 0 (barCell c) () + oweBar d 0 (barCell c) () = _
    rw [oweDma_bar, oweDma_bar, oweBar_bar, Nat.zero_add]
  rw [Finset.sum_congr rfl fun d _ => h d, Finset.sum_comm, Finset.sum_congr rfl fun r _ => Finset.sum_ite_eq' Finset.univ (src c r) fun _ => 1]
  simp

theorem sum_dma (c : Dev nD) (b : Fin 4) (hb : b = 1 ∨ b = 3) (r : Fin 15) : ∑ d : Dev nD, O₀ d (dCell b c r) () = N := by
  have h : ∀ d : Dev nD, O₀ d (dCell b c r) () = if d = src c r then N else 0 := fun d => by
    show oweDma 3 d 0 (dCell b c r) () + oweDma 1 d 0 (dCell b c r) () + oweBar d 0 (dCell b c r) () = _
    rw [oweDma_at, oweDma_at, oweBar_dma, Nat.add_zero]
    split
    · rcases hb with rfl | rfl
      · rw [if_neg (by decide), if_pos rfl, Nat.zero_add]
      · rw [if_pos rfl, if_neg (by decide), Nat.add_zero]
    · rfl
  rw [Finset.sum_congr rfl fun d _ => h d, Finset.sum_ite_eq' Finset.univ (src c r) fun _ => N, if_pos (Finset.mem_univ _)]

theorem credit {g : GSem nD τ sig} {n : ℕ} (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

/-- A device's launch credit: its barrier's fifteen units, and a chunk from every peer in both exchanges. -/
def credits (c : Dev nD) : sProp 𝕄 :=
  iprop(cred (tallyAt (barCell c) () 15) ∗ (bigSep Finset.univ fun r : Fin 15 => cred (tallyAt (dCell 1 c r) () N))
    ∗ (bigSep Finset.univ fun r : Fin 15 => cred (tallyAt (dCell 3 c r) () N)))

theorem second_fourth (P₀ P₁ P₂ P₃ : sProp 𝕄) : iprop(P₀ ∗ P₁ ∗ P₂ ∗ P₃) ⊢ iprop(P₁ ∗ P₃) := by
  iintro ⟨-, H1, -, H3⟩
  isplitl [H1] <;> iassumption

theorem creds (c : Dev nD) : (Pipeline.launchCred O₀ c : sProp 𝕄) ⊢ credits c := by
  unfold Pipeline.launchCred credits
  rw [bigSep_univ_at _ (SemLoc.reg barS), credit (sum_bar c)]
  refine sep_mono_right ?_
  have hsub : Finset.univ.map semEmb ⊆ Finset.univ.erase (SemLoc.reg barS) := fun sm h => by
    obtain ⟨x, -, rfl⟩ := Finset.mem_map.mp h
    exact Finset.mem_erase.mpr ⟨dsem_ne_bar x.1 x.2, Finset.mem_univ _⟩
  refine (bigSep_subset hsub).trans ?_
  · rw [bigSep_map, bigSep_univ_prod, four]
    rw [bigSep_congr (s := Finset.univ) (fun r _ => congrArg cred (credit (sum_dma c 1 (.inl rfl) r)).symm),
      bigSep_congr (s := Finset.univ) (fun r _ => congrArg cred (credit (sum_dma c 3 (.inr rfl) r)).symm)]
    exact second_fourth _ _ _ _

/-! ## The launch -/

/-- The launch's ghost state: the pipeline's, and the exchange's with its barriers live and its transfer cells dormant. -/
def u₀ : UU :=
  (initOf (Pipeline.cells (Pipeline.pin (pcfgs (F := F)) adm) cellOf_inj) (Pipeline.launchToks (Pipeline.pin (pcfgs (F := F)) adm) cellOf_inj),
    launchOf barCells dCells (barToks ∪ dToks))

/-- The exchange's launch state, held by device 0 until it is dealt. -/
def G (c : Dev nD) : sProp 𝕄 := if c = 0 then BI.own (ER (launchOf barCells dCells (barToks ∪ dToks))) else iprop(emp)

theorem G_all : bigSep Finset.univ (G (F := F)) = BI.own (ER (launchOf barCells dCells (barToks ∪ dToks))) := by
  rw [bigSep_univ_at _ (0 : Dev nD), bigSep_congr (s := Finset.univ.erase (0 : Dev nD)) (Ψ := fun _ => (BI.emp : sProp 𝕄))
    fun c hc => by unfold G; rw [if_neg (Finset.ne_of_mem_erase hc)]; rfl, BI.bigSep_emp_const]
  unfold G; rw [if_pos rfl]
  exact BI.equiv_iff.mp sep_emp

theorem invs_intro (A : Dev nD → Acc F) (κ : GSem nD τ sig → ℕ) :
    iprop((bigSep (barCells ∪ dCells) fun g => cellInv ER (Rd A) (κ g) g) ∗ bigSep barCells fun g => reached ER g 0) ⊢ (invs A κ : sProp 𝕄) := by
  have h : (bigSep (barCells ∪ dCells) fun g => (cellInv ER (Rd A) (κ g) g : sProp 𝕄))
      = iprop((bigSep Finset.univ fun c : Dev nD => cellInv ER (Rd A) (κ (barCell c)) (barCell c))
        ∗ bigSep Finset.univ fun x : Fin 4 × Dev nD × Fin 15 => cellInv ER (Rd A) (κ (dCell x.1 x.2.1 x.2.2)) (dCell x.1 x.2.1 x.2.2)) := by
    rw [bigSep_union disjoint_cells, bigSep_map, bigSep_map]; rfl
  have hr : (bigSep barCells fun g => (reached ER g 0 : sProp 𝕄)) = bigSep Finset.univ fun c : Dev nD => reached ER (barCell c) 0 := bigSep_map _
  unfold invs
  rw [h, hr, bigSep_sep']
  iintro ⟨⟨Hb, Hd⟩, Hr⟩
  isplitr [Hd]
  · isplitl [Hb] <;> iassumption
  · iexact Hd

/-- What goes with the buffers until the region. -/
abbrev E₀ (c : Dev nD) : sProp 𝕄 := iprop(Tk m c ∗ (∃ r, prngReg c r) ∗ owing c (O₀ c))

/-- What a device is dealt besides the invariants. -/
def dealt (c : Dev nD) : sProp 𝕄 :=
  iprop((tokens c ∗ rights c ∗ atPos ER (barCell c) 0 ∅ 0) ∗ credits c ∗ owes (c : Thread nD τ) (O₀ c) ∅ ∗ ∃ r, prngReg c r)

theorem E₀_intro (κ : GSem nD τ sig → ℕ) (c : Dev nD) : iprop(invs (accs m) κ ∗ dealt c) ⊢ (E₀ m c : sProp 𝕄) := by
  unfold dealt tokens credits E₀ Tk kit
  iintro ⟨#HI, ⟨⟨T1, T2, T3, T4, T5⟩, Hr, Hat⟩, ⟨C1, C2, C3⟩, HO, Hp⟩
  isplitr [HO Hp]
  · isplitr; · iexists κ; iexact HI
    isplitr [Hr]
    · isplitl [T1]; · iexact T1
      isplitl [T2]; · iexact T2
      isplitl [T3]; · iexact T3
      isplitl [T4]; · iexact T4
      isplitl [T5]; · iexact T5
      isplitl [C1]; · iexact C1
      isplitl [C2]; · iexact C2
      isplitl [C3] <;> iassumption
    · iexact Hr
  isplitl [Hp]; · iexact Hp
  iexists ∅; iexact HO

theorem unscoped_eq : ∀ sm : SemLoc sig, sm.isScoped .tc = false → sm = .reg barS := by decide

theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem launch_core (c : Dev nD) :
    iprop(unscopedBufs c (fun b => m ((c.tc : Thread nD τ).loc b)) ∗ unscopedSems0 c ∗ owes (c : Thread nD τ) (O₀ c) ∅
        ∗ Pipeline.launchCred O₀ c ∗ prngReg c (ρ c) ∗ G c)
      ⊢ (iprop(StableHlo.held (c : Thread nD τ) (Pipeline.ucRefs τ sig) (V0 m c)
        ∗ ((credits c ∗ owes (c : Thread nD τ) (O₀ c) ∅ ∗ ∃ r, prngReg c r) ∗ (semVal (barCell c) 0 ∗ G c))) : sProp 𝕄) := by
  rw [show unscopedBufs c (fun b => m ((c.tc : Thread nD τ).loc b)) = StableHlo.held (c : Thread nD τ) (Pipeline.ucRefs τ sig) (V0 m c)
    from Pipeline.unscopedBufs_held (Ix := Unit) (Name := ℕ) (U := UU) (Lvl := ℕ) c (V0 m c), unscopedSems_eq]
  iintro ⟨Hh, Hs, HO, Hcr, Hp, HG⟩
  ihave Hc := (creds (F := F) c) $$ Hcr
  isplitl [Hh]; · iexact Hh
  isplitl [Hc HO Hp]
  · isplitl [Hc]; · iexact Hc
    isplitl [HO]; · iexact HO
    iexists (ρ c); iexact Hp
  isplitl [Hs] <;> iassumption

abbrev T₀ (c : Dev nD) : sProp 𝕄 := iprop(StableHlo.held (c : Thread nD τ) (Pipeline.ucRefs τ sig) (V0 m c) ∗ E₀ m c)
abbrev Tₙ (c : Dev nD) : sProp 𝕄 := iprop(StableHlo.held (c : Thread nD τ) (Pipeline.ucRefs τ sig) (V2 m (outs m) c) ∗ semVal (barCell c) 0)

theorem init :
    iprop((bigSep Finset.univ fun c : Dev nD => iprop(unscopedBufs c (fun b => m ((c.tc : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore : (bigSep Finset.univ fun c : Dev nD => iprop(unscopedBufs c (fun b => m ((c.tc : Thread nD τ).loc b)) ∗ unscopedSems0 c
          ∗ owes (c : Thread nD τ) (O₀ c) ∅ ∗ Pipeline.launchCred O₀ c ∗ prngReg c (ρ c) ∗ G c))
      ⊢ iprop((bigSep Finset.univ fun c : Dev nD => StableHlo.held (c : Thread nD τ) (Pipeline.ucRefs τ sig) (V0 m c))
        ∗ (bigSep Finset.univ fun c : Dev nD => iprop(credits c ∗ owes (c : Thread nD τ) (O₀ c) ∅ ∗ ∃ r, prngReg c r))
        ∗ (bigSep Finset.univ fun c : Dev nD => semVal (barCell c) 0) ∗ BI.own (ER (launchOf barCells dCells (barToks ∪ dToks)))) := by
    have h : (bigSep Finset.univ fun c : Dev nD => iprop(unscopedBufs c (fun b => m ((c.tc : Thread nD τ).loc b)) ∗ unscopedSems0 c
          ∗ owes (c : Thread nD τ) (O₀ c) ∅ ∗ Pipeline.launchCred O₀ c ∗ prngReg c (ρ c) ∗ G c))
        ⊢ bigSep Finset.univ fun c : Dev nD => iprop(StableHlo.held (c : Thread nD τ) (Pipeline.ucRefs τ sig) (V0 m c)
          ∗ ((credits c ∗ owes (c : Thread nD τ) (O₀ c) ∅ ∗ ∃ r, prngReg c r) ∗ (semVal (barCell c) 0 ∗ G c))) :=
      bigSep_mono fun c _ => launch_core (F := F) m ρ c
    refine h.trans (Entails.of_eq ?_)
    rw [bigSep_sep', bigSep_sep', bigSep_sep' (Φ := fun c : Dev nD => semVal (barCell c) 0), G_all]
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hT : iprop((bigSep Finset.univ fun c : Dev nD => StableHlo.held (c : Thread nD τ) (Pipeline.ucRefs τ sig) (V0 m c)) ∗ bigSep Finset.univ (E₀ m))
      ⊢ bigSep Finset.univ (T₀ m) := Entails.of_eq (bigSep_sep' ..).symm
  have hD : iprop(((bigSep Finset.univ fun c : Dev nD => tokens c) ∗ (bigSep Finset.univ fun c : Dev nD => rights c) ∗ bigSep Finset.univ fun c : Dev nD => atPos ER (barCell c) 0 ∅ 0)
        ∗ bigSep Finset.univ fun c : Dev nD => iprop(credits c ∗ owes (c : Thread nD τ) (O₀ c) ∅ ∗ ∃ r, prngReg c r))
      ⊢ bigSep Finset.univ fun c : Dev nD => (dealt c : sProp 𝕄) := Entails.of_eq (by
    unfold dealt
    rw [bigSep_sep' (Φ := fun c : Dev nD => iprop(tokens c ∗ rights c ∗ atPos ER (barCell c) 0 ∅ 0)), bigSep_sep' (Φ := fun c : Dev nD => tokens c), bigSep_sep' (Φ := fun c : Dev nD => rights c)])
  iintro ⟨H, -⟩
  ihave H := hcore $$ H
  icases H with ⟨Hh, Hr, Hv, Hu⟩
  imod (Rounds.fund_launch ER (Rd (accs m)) disjoint_cells (fun g _ h => h) (barToks ∪ dToks)) $$ [Hv Hu] with ⟨%κ, -, Hinv, Hrch, Hat, Hopen, Htok⟩
  · isplitl [Hv]
    · iapply hv $$ Hv
    · iexact Hu
  imodintro
  iapply hT
  isplitl [Hh]; · iexact Hh
  iapply (bigSep_with_persistent (R := invs (accs m) κ) (Φ := fun c => dealt c) fun c _ => E₀_intro m κ c)
  isplitl [Hinv Hrch]
  · iapply (invs_intro (accs m) κ)
    isplitl [Hinv] <;> iassumption
  iapply hD
  isplitr [Hr]
  · isplitl [Htok]; · iapply (Entails.of_eq (tokens_eq (F := F))) $$ Htok
    isplitl [Hopen]; · iapply (Entails.of_eq (rights_eq (F := F))) $$ Hopen
    iapply hat $$ Hat
  · iexact Hr

/-! ## The run -/

set_option backward.isDefEq.respectTransparency.types false in
/-- From any memory with zero counters every weakly fair execution on the sixteen devices ends; then every argument is as
    launched, every device holds the result, and every counter reads zero. -/
theorem run_main : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v17) = (res m : Buf (Elt F) ((c : Thread nD τ).loc main_v17)))
      ∧ r.2.sem = fun _ => 0) := by
  refine Pipeline.θ_run_regions_kit_dev_sems (pcfgs (F := F)) adm (pdats m) () cellOf_inj EP defs₀ 𝒱₀ L lv m ρ main
    (segs m 𝒱₀ L lv (fun _ => E₀ m) () (pdats m) (reg m))
    (fun c Q => by
      rewrite [main_chain c, Pipeline.Seg.run_eq_chain,
        show (segs m 𝒱₀ L lv (fun _ => E₀ m) () (pdats m) (reg m) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide) O₀ L_of_ne G (u₀ (F := F))
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := fun c => ⟨.rfl, reg_pre m c, reg_post m c⟩)
    (hinit := init m ρ)
    (QY := fun c s => (∀ b ∈ Pipeline.ucRefs τ sig, s.mem ((c : Thread nD τ).1, b) = V2 m (outs m) c b) ∧ s.sem (barCell c) = 0)
    (hfin := fun c s' => ?_) (hQ := fun s h hs => ⟨fun c => ?_, ?_⟩)
  · unfold Tₙ StableHlo.held
    iintro ⟨⟨Hh, Hb⟩, HSI⟩
    icombine HSI Hb gives %hb
    ihave Hr := (pointsTo_read_all (Pipeline.ucRefs τ sig) (fun b => ((c : Thread nD τ).1, b)) (V2 m (outs m) c) s') $$ [Hh HSI]
    · isplitl [Hh] <;> iassumption
    icases Hr with ⟨%h, HSI⟩
    imodintro
    isplitr
    · ipureintro
      exact ⟨h, by simpa using hb⟩
    · iexact HSI
  · have hr : ∀ r : Ref sig .tc, Proc.devRef .tc r ∈ Pipeline.ucRefs τ sig → s.mem ((c.tc : Thread nD τ).loc r) = V2 m (outs m) c r :=
      fun r hr => (h c).1 (Proc.devRef .tc r) hr
    have hm : ∀ r : Ref sig .tc, r ∈ [main_arg0, main_arg1, main_arg2, main_arg3, main_arg4, main_v17] → Proc.devRef .tc r ∈ Pipeline.ucRefs τ sig :=
      fun r hr => Finset.mem_filter.mpr ⟨StableHlo.devRef_mem_tcRefs r, by revert r; decide⟩
    exact ⟨⟨(hr _ (hm _ (by decide))).trans (V2_main_arg0 m (outs m) c), (hr _ (hm _ (by decide))).trans (V2_main_arg1 m (outs m) c),
      (hr _ (hm _ (by decide))).trans (V2_main_arg2 m (outs m) c), (hr _ (hm _ (by decide))).trans (V2_main_arg3 m (outs m) c),
      (hr _ (hm _ (by decide))).trans (V2_main_arg4 m (outs m) c)⟩, (hr _ (hm _ (by decide))).trans (V2_res m c)⟩
  · exact sem_eq_zero hs fun c sm hsm => by
      obtain rfl := unscoped_eq sm hsm
      exact (h c).2

end Cert.K

end
-- ==== Proof.Frames.lean ====
module

public import proofs.«01_k».proof.Defs
public import proofs.«01_k».proof.Proof.Gen.Kernel
public import proofs.«01_k».proof.Proof.Gen.ReferenceIdeal.Run
public import proofs.«01_k».proof.Proof.Launch
public import Idealize.ShloMosaic.Lib.Quiescent

/-! The frames: every program runs, leaves its arguments as they were and every counter at zero. -/

@[expose] public section

set_option maxRecDepth 16384

noncomputable section

namespace Cert.Proof

open Idealize.ShloMosaic Idealize.SL.Sem

attribute [local instance] Cert.Kernel.Gen.facts Cert.KernelIdeal.Gen.facts Cert.ReferenceIdeal.Gen.facts

/-- The side conditions of the precondition on one device's blocks. -/
theorem facts_finite_kernel : Cert.Pre_finite_KernelIdeal.Facts := by
  constructor <;> decide

/-- The side conditions of the precondition on the whole arrays. -/
theorem facts_finite_reference : Cert.Pre_finite_ReferenceIdeal.Facts := by
  constructor <;> decide

/-- The two programs have the same text: their bodies are the same at every label. -/
theorem defs_eq : Cert.KernelIdeal.defs (F := Bits) = Cert.Kernel.defs (F := Bits) := by
  have h : Cert.KernelIdeal.defs₀ (F := Bits) = Cert.Kernel.defs₀ (F := Bits) := by
    unfold Cert.Kernel.defs₀ Cert.KernelIdeal.defs₀
    refine congrArg Defs.onTc ?_
    funext l x
    match l, x with
    | 0, (t, s) => rfl
  exact congrArg (Pipeline.defs (Cert.KernelIdeal.pcfgs (F := Bits))) h

/-- The kernel runs over any float values, its arguments stay and every counter ends at zero. -/
theorem frame_any {F : FTy → Type} [FloatOps F]
    (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F)))
      ⟨m, fun _ => 0, ρ⟩ (fun r => (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2)
          = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3)
          = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4)
          = m ((c.tc : Thread Cert.KernelIdeal.nD Cert.KernelIdeal.τ).loc Cert.KernelIdeal.main_arg4))
      ∧ r.2.sem = fun _ => 0) :=
  (θ_run (Cert.KernelIdeal.defs (F := F)) _ _).mono (fun _ h => ⟨fun c => (h.1 c).1, h.2⟩) (Cert.K.run_main m ρ)

/-- The kernel runs on the machine's floats. -/
theorem frame_kernel : Cert.quiescent_Kernel := fun m ρ _ => by
  have h := frame_any (F := Bits) m ρ
  rw [defs_eq] at h
  exact h

/-- The kernel runs on the extended reals. -/
theorem frame_kernelIdeal : Cert.quiescent_KernelIdeal := fun m ρ _ => frame_any m ρ

/-- The reference runs on the extended reals. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Proof

end
-- ==== Proof.Attention.lean ====
/- Attention over the extended reals: the weights may be normalised before or after the values are summed, and
the scores may be shifted by any real number. -/
module

public import Idealize.ShloMosaic.PureOps.Ideal.Laws
public import Idealize.ShloMosaic.Lib.Pointwise.Index

@[expose] public section

noncomputable section

namespace Cert.K.Softmax

open Idealize.ShloMosaic
open scoped BigOperators

/-- A sum of real numbers, in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor that isn't negative goes into a sum. -/
theorem sum_mul {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, EReal.right_distrib_of_nonneg_of_ne_top (by exact_mod_cast hc) (EReal.coe_ne_top c), ih]

/-- The quotient by a real number that isn't zero. -/
theorem div_coe (x : EReal) {c : ℝ} (hc : c ≠ 0) : Ideal.div x (c : EReal) = x * ((c⁻¹ : ℝ) : EReal) := by
  unfold Ideal.div
  rw [if_neg (by exact_mod_cast hc), ← EReal.coe_inv]

/-- A value that is neither infinity is a real number. -/
theorem exists_coe {x : EReal} (h : x ≠ ⊤) (h' : x ≠ ⊥) : ∃ r : ℝ, x = (r : EReal) := ⟨x.toReal, (EReal.coe_toReal h h').symm⟩

/-- The largest of some real numbers is a real number. -/
theorem fold_max {n : ℕ} [NeZero n] (s : Fin n → ℝ) :
    ∃ M : ℝ, (Finset.univ.fold max (⊥ : EReal) fun j => (s j : EReal)) = (M : EReal) := by
  refine exists_coe (ne_of_lt ?_) (ne_of_gt ?_)
  · rw [Finset.fold_max_lt]
    exact ⟨bot_lt_top, fun j _ => EReal.coe_lt_top _⟩
  · rw [Finset.lt_fold_max]
    exact .inr ⟨0, Finset.mem_univ _, EReal.bot_lt_coe _⟩

/-- Values weighted by the normalised exponentials of shifted scores, or weighted by the exponentials themselves and
normalised afterwards. -/
theorem shift {n : ℕ} [NeZero n] (s : Fin n → ℝ) (M : ℝ) (v : Fin n → EReal) :
    ∑ j, v j * Ideal.div (Ideal.exp ((s j : EReal) - (M : EReal))) (0 + ∑ k, Ideal.exp ((s k : EReal) - (M : EReal)))
      = Ideal.div (∑ j, Ideal.exp (s j : EReal) * v j) (∑ k, Ideal.exp (s k : EReal)) := by
  have he : ∀ r : ℝ, Ideal.exp (r : EReal) = ((Real.exp r : ℝ) : EReal) := fun _ => rfl
  simp only [← EReal.coe_sub, he, ← coe_sum, zero_add]
  have hD : 0 < ∑ k, Real.exp (s k) := Finset.sum_pos (fun _ _ => Real.exp_pos _) ⟨0, Finset.mem_univ _⟩
  have hD' : ∑ k, Real.exp (s k - M) = (∑ k, Real.exp (s k)) * (Real.exp M)⁻¹ := by
    rw [Finset.sum_mul]
    exact Finset.sum_congr rfl fun k _ => by rw [Real.exp_sub, div_eq_mul_inv]
  have hM : Real.exp M ≠ 0 := (Real.exp_pos M).ne'
  rw [hD', div_coe _ hD.ne', sum_mul _ _ (inv_nonneg.2 hD.le)]
  refine Finset.sum_congr rfl fun j _ => ?_
  rw [div_coe _ (mul_ne_zero hD.ne' (inv_ne_zero hM)), ← EReal.coe_mul, mul_comm (Real.exp (s j) : EReal) (v j), mul_assoc,
    ← EReal.coe_mul]
  congr 2
  rw [Real.exp_sub]
  field_simp

/-- Real scores may be scaled after the sum over the head's coordinates or before it. -/
theorem scale {n : ℕ} (q k : Fin n → ℝ) (c : ℝ) :
    (∑ d, (q d : EReal) * (k d : EReal)) * (c : EReal) = ∑ d, (q d : EReal) * (c : EReal) * (k d : EReal) := by
  simp only [← EReal.coe_mul, ← coe_sum]
  rw [Finset.sum_mul]
  congr 2
  funext d; ring

/-- An inner product of real numbers is a real number. -/
theorem dot_coe {n : ℕ} (q k : Fin n → ℝ) : ∑ d, (q d : EReal) * (k d : EReal) = ((∑ d, q d * k d : ℝ) : EReal) := by
  rw [coe_sum]
  exact Finset.sum_congr rfl fun d _ => (EReal.coe_mul _ _).symm

end Cert.K.Softmax

namespace Cert.K

open Idealize.ShloMosaic
open scoped BigOperators

/-- One query row's context at one of its head's coordinates. -/
def ctx (q : Fin 64 → EReal) (k : Fin 128 → Fin 64 → EReal) (v : Fin 128 → EReal) : EReal :=
  Ideal.div (∑ j : Fin 128, Ideal.exp (∑ e : Fin 64, q e * k j e) * v j) (∑ j : Fin 128, Ideal.exp (∑ e : Fin 64, q e * k j e))

/-- Coordinate `d` of head `h` of the sixty-four. -/
def at64 (h : Fin 64) (d : Fin 64) : Fin 4096 := ⟨h.val * 64 + d.val, by omega⟩

/-- Attention over whole arrays: row `i` of batch entry `b`, column `n`. -/
def attn (X : (⟨3, ![2, 128, 512]⟩ : Shape).Idx → EReal) (Wq : (⟨2, ![512, 4096]⟩ : Shape).Idx → EReal) (K V : (⟨4, ![2, 128, 64, 64]⟩ : Shape).Idx → EReal)
    (Wo : (⟨2, ![4096, 512]⟩ : Shape).Idx → EReal) (b : Fin 2) (i : Fin 128) (n : Fin 512) : EReal :=
  ∑ h : Fin 64, ∑ d : Fin 64, ctx (fun e => (∑ k : Fin 512, X (ix3 b i k) * Wq (ix2 k (at64 h e))) * ((1 / 8 : ℝ) : EReal))
    (fun j e => K (ix4 b j h e)) (fun j => V (ix4 b j h d)) * Wo (ix2 (at64 h d) n)

end Cert.K

end
-- ==== Proof.Value.lean ====
/- What one device's kernel computes, read at an index: the sum over its four heads of the attention's context times
the output projection. -/
module

public import proofs.«01_k».proof.Proof.Body
public import proofs.«01_k».proof.Proof.Attention
public import Idealize.ShloMosaic.Lib.Pointwise
public import Idealize.ShloMosaic.Lib.Pipeline.ValueKit.Geometry

@[expose] public section

set_option maxRecDepth 16384

noncomputable section

namespace Cert.K

open Cert.KernelIdeal Cert.KernelIdeal.Gen
open Idealize.ShloMosaic Idealize.ShloMosaic.TcCoe
open scoped BigOperators

section Heads

variable {F : FTy → Type} [FloatOps F]

/-- One head's attention: the exponentials of the scores, times the values, over the exponentials' sum. -/
def head (q k v : FVec F S128x64 .bf16) : FVec F S128x64 .f32 :=
  have w : FVec F S128x128 .f32 := exp (matmul dot_S128x64_S128x64_S128x128_1_1_0_0_n_n none q k (constant S128x128 .f32 0x00000000#32))
  divf (matmul dot_S128x128_S128x64_S128x64_1_0_0_1_n_n none (truncf .bf16 w bitsLt_bf16_f32) v (constant S128x64 .f32 0x00000000#32))
    (broadcastTo S128x64 (shapeCast S128x1 (multiReduction .add [1] S128 w 0x00000000#32 reduces_S128x128_S128 (.inl rfl) rfl) shapeCasts_S128_S128x1) broadcasts_S128x1_S128x64)

/-- A head's share of the output, added to the heads' before it. -/
def proj (y : FVec F S128x512 .f32) (h : FVec F S128x64 .f32) (o : Vec F S64x512 .bf16) : FVec F S128x512 .f32 :=
  addf y (matmul dot_S128x64_S64x512_S128x512_1_0_0_1_n_n none (truncf .bf16 h bitsLt_bf16_f32) (shapeCast S64x512 o shapeCasts_S64x512_S64x512 : FVec F S64x512 .bf16) (constant S128x512 .f32 0x00000000#32))

/-- The four heads' contexts, from their queries, keys and values side by side. -/
def ctx0 (q : FVec F S128x256 .f32) (k v : FVec F S128x256 .bf16) : FVec F S128x64 .f32 :=
  head (truncf .bf16 (extractStridedSlice S128x64 ![0, 0] q slices_S128x256_o0_0_S128x64) bitsLt_bf16_f32)
    (extractStridedSlice S128x64 ![0, 0] k slices_S128x256_o0_0_S128x64) (extractStridedSlice S128x64 ![0, 0] v slices_S128x256_o0_0_S128x64)
def ctx1 (q : FVec F S128x256 .f32) (k v : FVec F S128x256 .bf16) : FVec F S128x64 .f32 :=
  head (truncf .bf16 (extractStridedSlice S128x64 ![0, 64] q slices_S128x256_o0_64_S128x64) bitsLt_bf16_f32)
    (extractStridedSlice S128x64 ![0, 64] k slices_S128x256_o0_64_S128x64) (extractStridedSlice S128x64 ![0, 64] v slices_S128x256_o0_64_S128x64)
def ctx2 (q : FVec F S128x256 .f32) (k v : FVec F S128x256 .bf16) : FVec F S128x64 .f32 :=
  head (truncf .bf16 (extractStridedSlice S128x64 ![0, 128] q slices_S128x256_o0_128_S128x64) bitsLt_bf16_f32)
    (extractStridedSlice S128x64 ![0, 128] k slices_S128x256_o0_128_S128x64) (extractStridedSlice S128x64 ![0, 128] v slices_S128x256_o0_128_S128x64)
def ctx3 (q : FVec F S128x256 .f32) (k v : FVec F S128x256 .bf16) : FVec F S128x64 .f32 :=
  head (truncf .bf16 (extractStridedSlice S128x64 ![0, 192] q slices_S128x256_o0_192_S128x64) bitsLt_bf16_f32)
    (extractStridedSlice S128x64 ![0, 192] k slices_S128x256_o0_192_S128x64) (extractStridedSlice S128x64 ![0, 192] v slices_S128x256_o0_192_S128x64)

/-- One batch entry's share of the output, from its scaled queries. -/
def heads (q : FVec F S128x256 .f32) (k v : FVec F S128x256 .bf16) (o₀ o₁ o₂ o₃ : Vec F S64x512 .bf16) : FVec F S128x512 .f32 :=
  proj (proj (proj (proj (broadcast S128x512 (Scalar.ofBits .f32 0x00000000#32)) (ctx0 q k v) o₀) (ctx1 q k v) o₁) (ctx2 q k v) o₂) (ctx3 q k v) o₃

/-- The same, in chunks of sixteen rows. -/
def chunked (y : FVec F S128x512 .f32) : FVec F S8x16x512 .bf16 :=
  shapeCast S8x16x512 (shapeCast S8x16x512 (truncf .bf16 y bitsLt_bf16_f32 : FVec F S128x512 .bf16) shapeCasts_S128x512_S8x16x512 : FVec F S8x16x512 .bf16) shapeCasts_S8x16x512_S8x16x512

variable (X₀ : S2x128x512.Idx → Elt F .bf16) (X₁ : S512x256.Idx → Elt F .bf16)
  (X₂ X₃ : S2x128x256.Idx → Elt F .bf16) (X₄ : S256x512.Idx → Elt F .bf16)

theorem half0_eq : half0 X₀ X₁ X₂ X₃ X₄
    = chunked (heads (k0_pay2 (wv X₁) (xv0 X₀)) (k0_pay3 (kv0 X₂)) (k0_pay4 (kv0 X₃)) (ov0 X₄) (ov1 X₄) (ov2 X₄) (ov3 X₄)) := rfl
theorem half1_eq : half1 X₀ X₁ X₂ X₃ X₄
    = chunked (heads (k0_pay2 (wv X₁) (xv1 X₀)) (k0_pay3 (kv1 X₂)) (k0_pay4 (kv1 X₃)) (ov0 X₄) (ov1 X₄) (ov2 X₄) (ov3 X₄)) := rfl

end Heads

theorem head_apply (q k v : FVec Ideal S128x64 .bf16) (i : Fin 128) (d : Fin 64) :
    head q k v (ix2 i d) = Ideal.div (∑ j : Fin 128, Ideal.exp (∑ e : Fin 64, q (ix2 i e) * k (ix2 j e)) * v (ix2 j d))
      (∑ j : Fin 128, Ideal.exp (∑ e : Fin 64, q (ix2 i e) * k (ix2 j e))) := by
  pointwise [head]

theorem proj_apply (y : FVec Ideal S128x512 .f32) (h : FVec Ideal S128x64 .f32) (o : Vec Ideal S64x512 .bf16) (i : Fin 128) (n : Fin 512) :
    proj y h o (ix2 i n) = y (ix2 i n) + ∑ d : Fin 64, h (ix2 i d) * o (ix2 d n) := by
  pointwise [proj]

theorem chunked_apply (y : FVec Ideal S128x512 .f32) (s : Fin 8) (r : Fin 16) (n : Fin 512) :
    chunked y (ix3 s r n) = y (ix2 ⟨s.val * 16 + r.val, by omega⟩ n) := by
  pointwise [chunked]

/-- The scores' scale. -/
theorem eighth : Ideal.ofBits .f32 0x3E000000#32 = ((1 / 8 : ℝ) : EReal) := by
  simp [Ideal.ofBits, Ideal.ieee, -EReal.coe_mul]; norm_num

theorem query_apply (w : Vec Ideal S512x256 .bf16) (x : Vec Ideal S1x128x512 .bf16) (i : Fin 128) (p : Fin 256) :
    k0_pay2 w x (ix2 i p) = (∑ e : Fin 512, x (ix3 0 i e) * w (ix2 e p)) * ((1 / 8 : ℝ) : EReal) := by
  rw [← eighth]; pointwise [k0_pay2, k0_pay1]
theorem keys_apply (k : Vec Ideal S1x128x256 .bf16) (j : Fin 128) (p : Fin 256) : k0_pay3 k (ix2 j p) = k (ix3 0 j p) := by
  pointwise [k0_pay3]
theorem values_apply (k : Vec Ideal S1x128x256 .bf16) (j : Fin 128) (p : Fin 256) : k0_pay4 k (ix2 j p) = k (ix3 0 j p) := by
  pointwise [k0_pay4]

/-- Coordinate `d` of the head `l` of a device's four. -/
def at4 (l : Fin 4) (d : Fin 64) : Fin 256 := ⟨l.val * 64 + d.val, by omega⟩

theorem at4_0 (d : Fin 64) : at4 0 d = ⟨d.val, by omega⟩ := Fin.ext (by simp [at4])
theorem at4_1 (d : Fin 64) : at4 1 d = ⟨64 + d.val, by omega⟩ := Fin.ext (by simp [at4])
theorem at4_2 (d : Fin 64) : at4 2 d = ⟨128 + d.val, by omega⟩ := Fin.ext (by simp [at4])
theorem at4_3 (d : Fin 64) : at4 3 d = ⟨192 + d.val, by omega⟩ := Fin.ext (by simp [at4])

section Loads

variable (X₀ : S2x128x512.Idx → EReal) (X₁ : S512x256.Idx → EReal) (X₂ X₃ : S2x128x256.Idx → EReal) (X₄ : S256x512.Idx → EReal)

theorem ov0_apply (d : Fin 64) (n : Fin 512) : ov0 (F := Ideal) X₄ (ix2 d n) = X₄ (ix2 (at4 0 d) n) :=
  congrArg X₄ (funext fun a => Fin.ext ((ValueKit.rect_emb_unit_val ..).trans (by fin_cases a <;> simp [at4, ix2])))
theorem ov1_apply (d : Fin 64) (n : Fin 512) : ov1 (F := Ideal) X₄ (ix2 d n) = X₄ (ix2 (at4 1 d) n) :=
  congrArg X₄ (funext fun a => Fin.ext ((ValueKit.rect_emb_unit_val ..).trans (by fin_cases a <;> simp [at4, ix2])))
theorem ov2_apply (d : Fin 64) (n : Fin 512) : ov2 (F := Ideal) X₄ (ix2 d n) = X₄ (ix2 (at4 2 d) n) :=
  congrArg X₄ (funext fun a => Fin.ext ((ValueKit.rect_emb_unit_val ..).trans (by fin_cases a <;> simp [at4, ix2])))
theorem ov3_apply (d : Fin 64) (n : Fin 512) : ov3 (F := Ideal) X₄ (ix2 d n) = X₄ (ix2 (at4 3 d) n) :=
  congrArg X₄ (funext fun a => Fin.ext ((ValueKit.rect_emb_unit_val ..).trans (by fin_cases a <;> simp [at4, ix2])))
theorem wv_apply (e : Fin 512) (p : Fin 256) : wv (F := Ideal) X₁ (ix2 e p) = X₁ (ix2 e p) :=
  congrArg X₁ (funext fun a => Fin.ext ((ValueKit.rect_emb_unit_val ..).trans (by fin_cases a <;> simp [ix2])))
theorem xv0_apply (i : Fin 128) (e : Fin 512) : xv0 (F := Ideal) X₀ (ix3 0 i e) = X₀ (ix3 0 i e) :=
  congrArg X₀ (funext fun a => Fin.ext ((ValueKit.rect_emb_unit_val ..).trans (by fin_cases a <;> simp [ix3])))
theorem xv1_apply (i : Fin 128) (e : Fin 512) : xv1 (F := Ideal) X₀ (ix3 0 i e) = X₀ (ix3 1 i e) :=
  congrArg X₀ (funext fun a => Fin.ext ((ValueKit.rect_emb_unit_val ..).trans (by fin_cases a <;> simp [ix3])))
theorem kv0_apply (i : Fin 128) (e : Fin 256) : kv0 (F := Ideal) X₂ (ix3 0 i e) = X₂ (ix3 0 i e) :=
  congrArg X₂ (funext fun a => Fin.ext ((ValueKit.rect_emb_unit_val ..).trans (by fin_cases a <;> simp [ix3])))
theorem kv1_apply (i : Fin 128) (e : Fin 256) : kv1 (F := Ideal) X₂ (ix3 0 i e) = X₂ (ix3 1 i e) :=
  congrArg X₂ (funext fun a => Fin.ext ((ValueKit.rect_emb_unit_val ..).trans (by fin_cases a <;> simp [ix3])))

/-- A device's partial product at batch entry `b`, row `i`, column `n`. -/
def part0 (b : Fin 2) (i : Fin 128) (n : Fin 512) : EReal :=
  ∑ l : Fin 4, ∑ d : Fin 64, ctx (fun e => (∑ k : Fin 512, X₀ (ix3 b i k) * X₁ (ix2 k (at4 l e))) * ((1 / 8 : ℝ) : EReal))
    (fun j e => X₂ (ix3 b j (at4 l e))) (fun j => X₃ (ix3 b j (at4 l d))) * X₄ (ix2 (at4 l d) n)

/-- One batch entry's share, from blocks `x`, `k`, `v` of the device's arrays and the four heads' rows `o₀` to `o₃`. -/
theorem heads_apply (b : Fin 2) (w : Vec Ideal S512x256 .bf16) (x : Vec Ideal S1x128x512 .bf16) (k v : Vec Ideal S1x128x256 .bf16) (o₀ o₁ o₂ o₃ : Vec Ideal S64x512 .bf16)
    (hw : ∀ e p, w (ix2 e p) = X₁ (ix2 e p)) (hx : ∀ i e, x (ix3 0 i e) = X₀ (ix3 b i e))
    (hk : ∀ i p, k (ix3 0 i p) = X₂ (ix3 b i p)) (hv : ∀ i p, v (ix3 0 i p) = X₃ (ix3 b i p))
    (h₀ : ∀ d n, o₀ (ix2 d n) = X₄ (ix2 (at4 0 d) n)) (h₁ : ∀ d n, o₁ (ix2 d n) = X₄ (ix2 (at4 1 d) n))
    (h₂ : ∀ d n, o₂ (ix2 d n) = X₄ (ix2 (at4 2 d) n)) (h₃ : ∀ d n, o₃ (ix2 d n) = X₄ (ix2 (at4 3 d) n)) (i : Fin 128) (n : Fin 512) :
    heads (k0_pay2 w x) (k0_pay3 k) (k0_pay4 v) o₀ o₁ o₂ o₃ (ix2 i n) = part0 X₀ X₁ X₂ X₃ X₄ b i n := by
  rw [part0, Fin.sum_univ_four]
  simp only [heads, proj_apply, ctx0, ctx1, ctx2, ctx3, head_apply]
  simp only [h₀, h₁, h₂, h₃, ctx, at4_0, at4_1, at4_2, at4_3]
  pointwise []
  simp only [query_apply, keys_apply, values_apply, hw, hx, hk, hv]

theorem half0_apply (s : Fin 8) (r : Fin 16) (n : Fin 512) : half0 (F := Ideal) X₀ X₁ X₂ X₃ X₄ (ix3 s r n)
    = part0 X₀ X₁ X₂ X₃ X₄ 0 ⟨s.val * 16 + r.val, by omega⟩ n := by
  rw [half0_eq, chunked_apply]
  exact heads_apply X₀ X₁ X₂ X₃ X₄ 0 _ _ _ _ _ _ _ _ (wv_apply X₁) (xv0_apply X₀) (kv0_apply X₂) (kv0_apply X₃) (ov0_apply X₄) (ov1_apply X₄) (ov2_apply X₄) (ov3_apply X₄) _ _
theorem half1_apply (s : Fin 8) (r : Fin 16) (n : Fin 512) : half1 (F := Ideal) X₀ X₁ X₂ X₃ X₄ (ix3 s r n)
    = part0 X₀ X₁ X₂ X₃ X₄ 1 ⟨s.val * 16 + r.val, by omega⟩ n := by
  rw [half1_eq, chunked_apply]
  exact heads_apply X₀ X₁ X₂ X₃ X₄ 1 _ _ _ _ _ _ _ _ (wv_apply X₁) (xv1_apply X₀) (kv1_apply X₂) (kv1_apply X₃) (ov0_apply X₄) (ov1_apply X₄) (ov2_apply X₄) (ov3_apply X₄) _ _

/-- The same, in chunks: eight of sixteen rows from each batch entry. -/
theorem accv_apply (s r : Fin 16) (n : Fin 512) : accv (F := Ideal) X₀ X₁ X₂ X₃ X₄ (ix3 s r n)
    = part0 X₀ X₁ X₂ X₃ X₄ ⟨s.val / 8, by omega⟩ ⟨s.val % 8 * 16 + r.val, by omega⟩ n := by
  by_cases h : s.val < 8
  · refine (dif_pos (show (ix3 s r n 0).val < 8 from h)).trans ((half0_apply X₀ X₁ X₂ X₃ X₄ ⟨s.val, h⟩ r n).trans ?_)
    congr 1 <;> apply Fin.ext <;> show _ = _ <;> simp <;> omega
  · refine (dif_neg (show ¬ (ix3 s r n 0).val < 8 from h)).trans ((half1_apply X₀ X₁ X₂ X₃ X₄ ⟨s.val - 8, by omega⟩ r n).trans ?_)
    congr 1 <;> apply Fin.ext <;> show _ = _ <;> simp <;> omega

end Loads

end Cert.K

end
-- ==== Proof.Arrays.lean ====
/- What a device's kernel reads, of the arguments: its slices of the two projections, its heads' keys and values. -/
module

public import proofs.«01_k».proof.Proof.Region
public import proofs.«01_k».proof.Proof.Value
public import Idealize.ShloMosaic.Lib.DynamicIndex
public import Idealize.ShloMosaic.Lib.Pipeline.ValueKit.Acc
public import Idealize.ShloMosaic.Lib.StableHlo.RunClose
public import Idealize.ShloMosaic.Lib.Claim

@[expose] public section

set_option maxRecDepth 16384

noncomputable section

namespace Cert.K

open Cert.KernelIdeal Cert.KernelIdeal.Gen
open Idealize.ShloMosaic Idealize.ShloMosaic.TcCoe
open scoped BigOperators

variable (m : (ℓ : Loc nD τ sig) → Buf (Elt Ideal) ℓ) (c : Dev nD)

theorem inX_eq : inX m c = m ((c : Thread nD τ).loc main_arg0) := V1_of m c main_arg0 (by decide)

theorem inK_eq : inK m c = shapeCast S2x128x256 (m ((c : Thread nD τ).loc main_arg2)) shapeCasts_S2x128x4x64_S2x128x256 := by
  unfold_abbrev_sides
  after_results_simp <;> rfl

theorem inV_eq : inV m c = shapeCast S2x128x256 (m ((c : Thread nD τ).loc main_arg3)) shapeCasts_S2x128x4x64_S2x128x256 := by
  unfold_abbrev_sides
  after_results_simp <;> rfl

/-- Device `c`'s first column of the query projection, and first row of the output projection, as the program computes it. -/
def base : IVec S_ 32 :=
  have o : IVec S_ 32 := muli (Host.remui (Host.divui (constantI S_ 32 (Dev.word c)) (constantI S_ 32 1#32)) (constantI S_ 32 16#32)) (constantI S_ 32 256#32)
  select (cmpi .slt o (constantI S_ 32 0#32)) (addi o (constantI S_ 32 4096#32)) o

theorem base_val : ∀ c : Dev nD, (base c (Shape.Idx.first h_S_)).toInt = ((256 * c.val : ℕ) : ℤ) := by decide +kernel

theorem inWq_dyn : inWq m c = Host.dynamicSlice S512x256 (m ((c : Thread nD τ).loc main_arg1)) (fun k => ((![constantI S_ 32 0#32, base c] : Fin 2 → IVec S_ 32) k (Shape.Idx.first h_S_)).toInt) sliceFits_S512x4096_S512x256 := by
  unfold_abbrev_sides
  after_results_simp_entrywise
  rfl

theorem inWo_dyn : inWo m c = Host.dynamicSlice S256x512 (m ((c : Thread nD τ).loc main_arg4)) (fun k => ((![base c, constantI S_ 32 0#32] : Fin 2 → IVec S_ 32) k (Shape.Idx.first h_S_)).toInt) sliceFits_S4096x512_S256x512 := by
  unfold_abbrev_sides
  after_results_simp_entrywise
  rfl

theorem inWq_apply (e : Fin 512) (p : Fin 256) :
    inWq m c (ix2 e p) = m ((c : Thread nD τ).loc main_arg1) (ix2 (n0 := 512) (n1 := 4096) e ⟨256 * c.val + p.val, by have : c.val < 16 := c.isLt; omega⟩) := by
  have hc : c.val < 16 := c.isLt
  rw [inWq_dyn]
  refine (congrFun (Host.dynamicSlice_eq_extractStridedSlice (s := S512x4096) S512x256 _ _ ![0, 256 * c.val] _
    ⟨rfl, fun a => by fin_cases a; exacts [(by decide : 0 + 512 ≤ 512), (by omega : 256 * c.val + 256 ≤ 4096)]⟩
    (fun a => by fin_cases a; exacts [rfl, base_val c])) _).trans ?_
  pointwise []

theorem inWo_apply (p : Fin 256) (n : Fin 512) :
    inWo m c (ix2 p n) = m ((c : Thread nD τ).loc main_arg4) (ix2 (n0 := 4096) (n1 := 512) ⟨256 * c.val + p.val, by have : c.val < 16 := c.isLt; omega⟩ n) := by
  have hc : c.val < 16 := c.isLt
  rw [inWo_dyn]
  refine (congrFun (Host.dynamicSlice_eq_extractStridedSlice (s := S4096x512) S256x512 _ _ ![256 * c.val, 0] _
    ⟨rfl, fun a => by fin_cases a; exacts [(by omega : 256 * c.val + 256 ≤ 4096), (by decide : 0 + 512 ≤ 512)]⟩
    (fun a => by fin_cases a; exacts [base_val c, rfl])) _).trans ?_
  pointwise []

/-- Heads laid side by side, read at a head's coordinate. -/
theorem laid_apply (X : S2x128x4x64.Idx → EReal) (b : Fin 2) (j : Fin 128) (l : Fin 4) (d : Fin 64) :
    shapeCast S2x128x256 X shapeCasts_S2x128x4x64_S2x128x256 (ix3 b j (at4 l d)) = X (ix4 b j l d) := by
  pointwise [at4]

/-! ## The sum over the devices -/

theorem part_apply (A : Dev nD → Acc Ideal) (c s : Dev nD) (r : Fin 16) (n : Fin 512) :
    part A c s (ix3 0 r n) = A c (ix3 (n0 := 16) (n1 := 16) (n2 := 512) s r n) := congrArg (A c) (emb_acc s _)

theorem red_apply (A : Dev nD → Acc Ideal) (s : Dev nD) (r : Fin 16) (n : Fin 512) :
    red A s (ix3 0 r n) = ∑ c : Dev nD, A c (ix3 (n0 := 16) (n1 := 16) (n2 := 512) s r n) := by
  have h : red A s (ix3 0 r n) = A s (ix3 (n0 := 16) (n1 := 16) (n2 := 512) s r n)
      + ∑ k : Fin 15, A (src s k) (ix3 (n0 := 16) (n1 := 16) (n2 := 512) s r n) := by
    unfold red
    pointwise [k0_pay20]
    rw [part_apply]
    exact congrArg _ (Finset.sum_congr rfl fun k _ => part_apply A (src s k) s r n)
  have e : ∑ i : Fin 16, A (around s i) (ix3 (n0 := 16) (n1 := 16) (n2 := 512) s r n)
      = A (around s 0) (ix3 (n0 := 16) (n1 := 16) (n2 := 512) s r n) + ∑ k : Fin 15, A (around s k.succ) (ix3 (n0 := 16) (n1 := 16) (n2 := 512) s r n) :=
    Fin.sum_univ_succ _
  rw [h, ← (around s).sum_comp, e, around_zero]
  simp only [around_succ, src_eq_peer_rev]
  rw [← Equiv.sum_comp Fin.revPerm]
  simp only [Fin.revPerm_apply, Fin.rev_rev]

theorem outv_apply (A : Dev nD → Acc Ideal) (b : Fin 2) (i : Fin 128) (n : Fin 512) :
    outv A (ix3 b i n) = ∑ c : Dev nD, A c (ix3 (n0 := 16) (n1 := 16) (n2 := 512) ⟨8 * b.val + i.val / 16, by omega⟩ ⟨i.val % 16, by omega⟩ n) := by
  refine Eq.trans ?_ (red_apply A ⟨8 * b.val + i.val / 16, by show _ < 16; omega⟩ ⟨i.val % 16, by omega⟩ n)
  show red A ⟨(8 * b.val + i.val / 16) % 16, _⟩ _ = _
  exact congrArg (fun s => red A s _) (Fin.ext (Nat.mod_eq_of_lt (by omega)))

/-! ## The result -/

theorem res_apply (X : S2x128x512.Idx → EReal) (Wq : S512x4096.Idx → EReal) (K V : (⟨4, ![2, 128, 64, 64]⟩ : Shape).Idx → EReal) (Wo : S4096x512.Idx → EReal)
    (h0 : ∀ c : Dev nD, m ((c : Thread nD τ).loc main_arg0) = X) (h1 : ∀ c : Dev nD, m ((c : Thread nD τ).loc main_arg1) = Wq)
    (h2 : ∀ (c : Dev nD) (b : Fin 2) (j : Fin 128) (l : Fin 4) (d : Fin 64), m ((c : Thread nD τ).loc main_arg2) (ix4 (n0 := 2) (n1 := 128) (n2 := 4) (n3 := 64) b j l d) = K (ix4 b j ⟨c.val * 4 + l.val, by have : c.val < 16 := c.isLt; omega⟩ d))
    (h3 : ∀ (c : Dev nD) (b : Fin 2) (j : Fin 128) (l : Fin 4) (d : Fin 64), m ((c : Thread nD τ).loc main_arg3) (ix4 (n0 := 2) (n1 := 128) (n2 := 4) (n3 := 64) b j l d) = V (ix4 b j ⟨c.val * 4 + l.val, by have : c.val < 16 := c.isLt; omega⟩ d))
    (h4 : ∀ c : Dev nD, m ((c : Thread nD τ).loc main_arg4) = Wo) (b : Fin 2) (i : Fin 128) (n : Fin 512) :
    res m (ix3 b i n) = attn X Wq K V Wo b i n := by
  have hk : ∀ (c : Dev nD) (b : Fin 2) (j : Fin 128) (l : Fin 4) (d : Fin 64), inK m c (ix3 b j (at4 l d)) = K (ix4 b j ⟨c.val * 4 + l.val, by have : c.val < 16 := c.isLt; omega⟩ d) :=
    fun c b j l d => (congrFun (inK_eq m c) _).trans ((laid_apply _ b j l d).trans (h2 c b j l d))
  have hv : ∀ (c : Dev nD) (b : Fin 2) (j : Fin 128) (l : Fin 4) (d : Fin 64), inV m c (ix3 b j (at4 l d)) = V (ix4 b j ⟨c.val * 4 + l.val, by have : c.val < 16 := c.isLt; omega⟩ d) :=
    fun c b j l d => (congrFun (inV_eq m c) _).trans ((laid_apply _ b j l d).trans (h3 c b j l d))
  have hx : ∀ (c : Dev nD) b i k, inX m c (ix3 b i k) = X (ix3 b i k) := fun c b i k => congrFun ((inX_eq m c).trans (h0 c)) _
  have hp : ∀ (c : Dev nD) (l : Fin 4) (d : Fin 64), 256 * c.val + (at4 l d).val = (c.val * 4 + l.val) * 64 + d.val := fun c l d => by simp only [at4]; omega
  have hq : ∀ (c : Dev nD) (k : Fin 512) (l : Fin 4) (d : Fin 64), inWq m c (ix2 k (at4 l d)) = Wq (ix2 k (at64 ⟨c.val * 4 + l.val, by have : c.val < 16 := c.isLt; omega⟩ d)) :=
    fun c k l d => (inWq_apply m c k _).trans ((congrFun (h1 c) _).trans (congrArg (fun p => Wq (ix2 k p)) (Fin.ext (hp c l d))))
  have ho : ∀ (c : Dev nD) (n : Fin 512) (l : Fin 4) (d : Fin 64), inWo m c (ix2 (at4 l d) n) = Wo (ix2 (at64 ⟨c.val * 4 + l.val, by have : c.val < 16 := c.isLt; omega⟩ d) n) :=
    fun c n l d => (inWo_apply m c _ n).trans ((congrFun (h4 c) _).trans (congrArg (fun p => Wo (ix2 p n)) (Fin.ext (hp c l d))))
  refine (outv_apply (accs m) b i n).trans ?_
  unfold accs
  have hb : (⟨(8 * b.val + i.val / 16) / 8, by omega⟩ : Fin 2) = b := Fin.ext (by show (8 * b.val + i.val / 16) / 8 = b.val; omega)
  have hi : (⟨(8 * b.val + i.val / 16) % 8 * 16 + i.val % 16, by omega⟩ : Fin 128) = i := Fin.ext (by show (8 * b.val + i.val / 16) % 8 * 16 + i.val % 16 = i.val; omega)
  simp only [accv_apply, hb, hi, part0, hk, hv, hx, hq, ho]
  exact Fin.sum_mul_add_fin 16 4 (fun h : Fin 64 => ∑ d : Fin 64, ctx (fun e => (∑ k : Fin 512, X (ix3 b i k) * Wq (ix2 k (at64 h e))) * ((1 / 8 : ℝ) : EReal))
    (fun j e => K (ix4 b j h e)) (fun j => V (ix4 b j h d)) * Wo (ix2 (at64 h d) n))

end Cert.K

end
-- ==== Proof.Reference.lean ====
/- The reference's result, read at an index. -/
module

public import proofs.«01_k».proof.Proof.Attention
public import proofs.«01_k».proof.Proof.Gen.ReferenceIdeal.Run
public import Idealize.ShloMosaic.Lib.Pointwise
public import Idealize.ShloMosaic.Lib.Pipeline.ValueKit.Acc

@[expose] public section

set_option maxRecDepth 16384

noncomputable section

namespace Cert.K.Ref

open Cert.ReferenceIdeal Cert.ReferenceIdeal.Gen
open Idealize.ShloMosaic Idealize.ShloMosaic.TcCoe
open scoped BigOperators

/-- Which keys a query row may see. -/
def mask : IVec S128x128 1 :=
  ori (cmpi .sle (absi (subi (broadcastInDim S128x128 ![0, 1] bcast_S128x1_S128x128_0_1 (broadcastInDim S128x1 ![0] bcast_S128_S128x1_0 (iotaInDim S128 32 0))) (broadcastInDim S128x128 ![0, 1] bcast_S1x128_S128x128_0_1 (broadcastInDim S1x128 ![1] bcast_S128_S1x128_1 (iotaInDim S128 32 0))))) (broadcastInDim S128x128 ![] bcast_S_S128x128 (constantI S_ 32 128#32))) (ori (broadcastInDim S128x128 ![0, 1] bcast_S1x128_S128x128_0_1 (cmpi .slt (broadcastInDim S1x128 ![1] bcast_S128_S1x128_1 (iotaInDim S128 32 0)) (broadcastInDim S1x128 ![] bcast_S_S1x128 (constantI S_ 32 32#32)))) (broadcastInDim S128x128 ![0, 1] bcast_S128x1_S128x128_0_1 (cmpi .slt (broadcastInDim S128x1 ![0] bcast_S128_S128x1_0 (iotaInDim S128 32 0)) (broadcastInDim S128x1 ![] bcast_S_S128x1 (constantI S_ 32 32#32)))))

/-- Which query rows see any key. -/
def keep : IVec S128 1 := Host.reduce IntOp.ori mask (constantI S_ 1 0#1) reducesTo_S128x128_S128_d1 h_S_

section Stages

variable {F : FTy → Type} [FloatOps F]

/-- The scores, from the activations, the query projection and the keys. -/
def scores (X : FVec F S2x128x512 .bf16) (Wq : FVec F S512x4096 .bf16) (K : FVec F S2x128x64x64 .bf16) : FVec F S2x64x128x128 .f32 :=
  mulf (extf .f32 (truncf .bf16 (Host.dotGeneral dot_S2x128x64x64_S2x128x64x64_S2x64x128x128_3_3_1_1_02_02 none
    (shapeCast S2x128x64x64 (truncf .bf16 (Host.dotGeneral dot_S2x128x512_S512x4096_S2x128x4096_2_0_01_1_n_n none X Wq : FVec F S2x128x4096 .f32) bitsLt_bf16_f32 : FVec F S2x128x4096 .bf16) shapeCasts_S2x128x4096_S2x128x64x64) K : FVec F S2x64x128x128 .f32) bitsLt_bf16_f32) bitsLt_bf16_f32)
    (broadcastInDim S2x64x128x128 ![] bcast_S_S2x64x128x128 (constant S_ .f32 0x3E000000#32))

/-- The scores, a number far below them where a key is hidden. -/
def masked (s : FVec F S2x64x128x128 .f32) : FVec F S2x64x128x128 .f32 :=
  select (broadcastInDim S2x64x128x128 ![0, 1, 2, 3] bcast_S1x1x128x128_S2x64x128x128_0_1_2_3 (broadcastInDim S1x1x128x128 ![2, 3] bcast_S128x128_S1x1x128x128_2_3 mask)) s
    (broadcastInDim S2x64x128x128 ![] bcast_S_S2x64x128x128 (id (constant S_ .f32 0xCE6E6B28#32)))

/-- The exponentials of the scores, shifted by each row's largest. -/
def expo (s : FVec F S2x64x128x128 .f32) : FVec F S2x64x128x128 .f32 :=
  Host.exp (subf s (broadcastInDim S2x64x128x128 ![0, 1, 2, 3] bcast_S2x64x128x1_S2x64x128x128_0_1_2_3 (broadcastInDim S2x64x128x1 ![0, 1, 2] bcast_S2x64x128_S2x64x128x1_0_1_2
    (Host.reduce FloatOps.maximumf s (constant S_ .f32 0xFF800000#32) reducesTo_S2x64x128x128_S2x64x128_d3 h_S_))))

/-- Each row's sum of exponentials, one where no key is seen. -/
def denom (e : FVec F S2x64x128x128 .f32) : FVec F S2x64x128x1 .f32 :=
  select (broadcastInDim S2x64x128x1 ![0, 1, 2, 3] bcast_S1x1x128x1_S2x64x128x1_0_1_2_3 (broadcastInDim S1x1x128x1 ![2] bcast_S128_S1x1x128x1_2 keep))
    (broadcastInDim S2x64x128x1 ![0, 1, 2] bcast_S2x64x128_S2x64x128x1_0_1_2 (Host.reduceAdd e (constant S_ .f32 0x00000000#32) reducesTo_S2x64x128x128_S2x64x128_d3 h_S_))
    (broadcastInDim S2x64x128x1 ![] bcast_S_S2x64x128x1 (id (constant S_ .f32 0x3F800000#32)))

/-- The attention weights. -/
def weights (e : FVec F S2x64x128x128 .f32) : FVec F S2x64x128x128 .f32 :=
  select (broadcastInDim S2x64x128x128 ![0, 1, 2, 3] bcast_S1x1x128x1_S2x64x128x128_0_1_2_3 (broadcastInDim S1x1x128x1 ![2] bcast_S128_S1x1x128x1_2 keep))
    (Host.divf e (broadcastInDim S2x64x128x128 ![0, 1, 2, 3] bcast_S2x64x128x1_S2x64x128x128_0_1_2_3 (denom e)))
    (broadcastInDim S2x64x128x128 ![] bcast_S_S2x64x128x128 (id (constant S_ .f32 0x00000000#32)))

/-- The weighted values, projected. -/
def final (V : FVec F S2x128x64x64 .bf16) (Wo : FVec F S4096x512 .bf16) (w : FVec F S2x64x128x128 .f32) : FVec F S2x128x512 .bf16 :=
  truncf .bf16 (Host.dotGeneral dot_S2x128x4096_S4096x512_S2x128x512_2_0_01_1_n_n none
    (shapeCast S2x128x4096 (transpose S2x128x64x64 [0, 3, 1, 2] (Host.dotGeneral dot_S2x128x64x64_S2x64x128x128_S2x64x64x128_1_3_3_2_02_01 none (extf .f32 V bitsLt_bf16_f32) w : FVec F S2x64x64x128 .f32) transposes_S2x64x64x128_S2x128x64x64_0_3_1_2 : FVec F S2x128x64x64 .f32) shapeCasts_S2x128x64x64_S2x128x4096)
    (extf .f32 Wo bitsLt_bf16_f32) : FVec F S2x128x512 .f32) bitsLt_bf16_f32

theorem res_eq (m : (ℓ : Loc nD τ sig) → Buf (Elt F) ℓ) (c : Dev nD) : Value.res_out0 m c
    = final (m ((c.tc : Thread nD τ).loc main_arg3)) (m ((c.tc : Thread nD τ).loc main_arg4))
        (weights (expo (masked (scores (m ((c.tc : Thread nD τ).loc main_arg0)) (m ((c.tc : Thread nD τ).loc main_arg1)) (m ((c.tc : Thread nD τ).loc main_arg2)))))) := rfl

end Stages

/-! ## The mask hides nothing -/

theorem mask_true : ∀ j, mask j = 1#1 := by
  intro j
  idx_vars j
  pointwise [mask]
  revert j0 j1
  decide +kernel

theorem keep_true (i : S128.Idx) : keep i = 1#1 := by
  idx_vars i
  pointwise [keep, mask_true]
  decide +kernel

theorem masked_eq (s : FVec Ideal S2x64x128x128 .f32) : masked s = s := by
  funext j; idx_vars j
  pointwise [masked, mask_true]

theorem scores_apply (X : FVec Ideal S2x128x512 .bf16) (Wq : FVec Ideal S512x4096 .bf16) (K : FVec Ideal S2x128x64x64 .bf16) (b : Fin 2) (h : Fin 64) (i j : Fin 128) :
    scores X Wq K (ix4 b h i j) = (∑ d : Fin 64, (∑ k : Fin 512, X (ix3 b i k) * Wq (ix2 k (at64 h d))) * K (ix4 b j h d)) * Ideal.ofBits .f32 0x3E000000#32 := by
  pointwise [scores, at64]

theorem bottom : Ideal.ofBits .f32 0xFF800000#32 = ⊥ := by simp [Ideal.ofBits, Ideal.ieee]

theorem eighth : Ideal.ofBits .f32 0x3E000000#32 = ((1 / 8 : ℝ) : EReal) := by
  simp [Ideal.ofBits, Ideal.ieee, -EReal.coe_mul]; norm_num

theorem expo_apply (s : FVec Ideal S2x64x128x128 .f32) (b : Fin 2) (h : Fin 64) (i j : Fin 128) :
    expo s (ix4 b h i j) = Ideal.exp (s (ix4 b h i j) - Finset.univ.fold max (⊥ : EReal) fun k => s (ix4 b h i k)) := by
  pointwise [expo, bottom]

theorem denom_apply (e : FVec Ideal S2x64x128x128 .f32) (b : Fin 2) (h : Fin 64) (i : Fin 128) :
    denom e (ix4 b h i 0) = 0 + ∑ k, e (ix4 b h i k) := by
  pointwise [denom, keep_true]

theorem weights_apply (e : FVec Ideal S2x64x128x128 .f32) (b : Fin 2) (h : Fin 64) (i j : Fin 128) :
    weights e (ix4 b h i j) = Ideal.div (e (ix4 b h i j)) (0 + ∑ k, e (ix4 b h i k)) := by
  pointwise [weights, keep_true, denom_apply]

theorem final_apply (V : FVec Ideal S2x128x64x64 .bf16) (Wo : FVec Ideal S4096x512 .bf16) (w : FVec Ideal S2x64x128x128 .f32) (b : Fin 2) (i : Fin 128) (n : Fin 512) :
    final V Wo w (ix3 b i n) = ∑ h : Fin 64, ∑ d : Fin 64, (∑ j : Fin 128, V (ix4 b j h d) * w (ix4 b h i j)) * Wo (ix2 (at64 h d) n) := by
  pointwise [final]
  refine (Fin.sum_mul_add_fin 64 64 (fun x : Fin 4096 => (∑ j : Fin 128, V (ix4 b j ⟨x.val / 64, by omega⟩ ⟨x.val % 64, by omega⟩) * w (ix4 b ⟨x.val / 64, by omega⟩ i j)) * Wo (ix2 x n))).symm.trans ?_
  refine Finset.sum_congr rfl fun h _ => Finset.sum_congr rfl fun d _ => ?_
  have hh : (⟨(h.val * 64 + d.val) / 64, by omega⟩ : Fin 64) = h := Fin.ext (by show (h.val * 64 + d.val) / 64 = h.val; omega)
  have hd : (⟨(h.val * 64 + d.val) % 64, by omega⟩ : Fin 64) = d := Fin.ext (by show (h.val * 64 + d.val) % 64 = d.val; omega)
  simp only [hh, hd]
  rfl

/-! ## The result -/

/-- The reference is attention, where the activations, the query projection and the keys are real numbers. -/
theorem res_apply (m : (ℓ : Loc nD τ sig) → Buf (Elt Ideal) ℓ) (c : Dev nD) {X : S2x128x512.Idx → ℝ} {Wq : S512x4096.Idx → ℝ} {K : S2x128x64x64.Idx → ℝ}
    (h0 : m ((c.tc : Thread nD τ).loc main_arg0) = fun i => (X i : EReal)) (h1 : m ((c.tc : Thread nD τ).loc main_arg1) = fun i => (Wq i : EReal))
    (h2 : m ((c.tc : Thread nD τ).loc main_arg2) = fun i => (K i : EReal)) (b : Fin 2) (i : Fin 128) (n : Fin 512) :
    Value.res_out0 m c (ix3 b i n) = attn (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) b i n := by
  rw [res_eq, h0, h1, h2]
  refine (final_apply _ _ _ b i n).trans ?_
  unfold attn
  refine Finset.sum_congr rfl fun h _ => Finset.sum_congr rfl fun d _ => congrArg (· * _) ?_
  have hq : ∀ e, ∑ k : Fin 512, (X (ix3 b i k) : EReal) * (Wq (ix2 k (at64 h e)) : EReal) = ((∑ k : Fin 512, X (ix3 b i k) * Wq (ix2 k (at64 h e)) : ℝ) : EReal) :=
    fun e => Softmax.dot_coe _ _
  have hs : ∀ j, masked (scores (F := Ideal) (fun i => (X i : EReal)) (fun i => (Wq i : EReal)) (fun i => (K i : EReal))) (ix4 b h i j)
      = ∑ e : Fin 64, ((∑ k : Fin 512, X (ix3 b i k) * Wq (ix2 k (at64 h e)) : ℝ) : EReal) * ((1 / 8 : ℝ) : EReal) * (K (ix4 b j h e) : EReal) := fun j => by
    rw [masked_eq, scores_apply, eighth]
    simp only [hq]
    exact Softmax.scale _ _ _
  have hr : ∀ j, ∑ e : Fin 64, ((∑ k : Fin 512, X (ix3 b i k) * Wq (ix2 k (at64 h e)) : ℝ) : EReal) * ((1 / 8 : ℝ) : EReal) * (K (ix4 b j h e) : EReal)
      = ((∑ e : Fin 64, (∑ k : Fin 512, X (ix3 b i k) * Wq (ix2 k (at64 h e))) * (1 / 8) * K (ix4 b j h e) : ℝ) : EReal) := fun j => by
    simp only [← EReal.coe_mul, ← Softmax.coe_sum]
  obtain ⟨M, hM⟩ := Softmax.fold_max fun j : Fin 128 => ∑ e : Fin 64, (∑ k : Fin 512, X (ix3 b i k) * Wq (ix2 k (at64 h e))) * (1 / 8) * K (ix4 b j h e)
  simp only [weights_apply, expo_apply, hs, hr, hM, ctx, hq]
  exact Softmax.shift _ M _

end Cert.K.Ref

end
-- ==== Proof.Algebra.lean ====
/- The kernel and the reference agree over the extended reals. -/
module

public import proofs.«01_k».proof.Proof.Arrays
public import proofs.«01_k».proof.Proof.Reference
public import proofs.«01_k».proof.Proof.Frames
public import Idealize.ShloMosaic.Lib.ReduceAll
public import Idealize.ShloMosaic.Lib.WordArith
public import Idealize.ShloMosaic.Lib.Affine

@[expose] public section

set_option maxRecDepth 16384

noncomputable section

namespace Cert.Proof

open Idealize.ShloMosaic Idealize.SL.Sem
open scoped BigOperators

attribute [local instance] Cert.Kernel.Gen.facts Cert.KernelIdeal.Gen.facts Cert.ReferenceIdeal.Gen.facts facts_finite_kernel facts_finite_reference

theorem infinity : Ideal.ofBits .bf16 0x7F80#16 = ⊤ := by simp [Ideal.ofBits, Ideal.ieee]

/-- A value whose magnitude is below infinity is a real number. -/
theorem real_of_abs {x : EReal} (h : BitVec.ofBool (decide (max x (-x) < ⊤)) = 1#1) : ∃ r : ℝ, x = (r : EReal) := by
  rw [WordArith.ofBool_eq_one_iff, decide_eq_true_eq, max_lt_iff] at h
  exact Cert.K.Softmax.exists_coe h.1.ne (fun e => h.2.ne (by rw [e, EReal.neg_bot]))

/-- What the precondition says: the activations, the query projection and the keys are real numbers. -/
theorem finite_spec {X : FVec Ideal ⟨3, ![2, 128, 512]⟩ .bf16} {Wq : FVec Ideal ⟨2, ![512, 4096]⟩ .bf16} {K V : FVec Ideal ⟨4, ![2, 128, 4, 64]⟩ .bf16}
    {Wo : FVec Ideal ⟨2, ![4096, 512]⟩ .bf16} (h : Cert.Pre_finite_KernelIdeal.fn (F := Ideal) X Wq K V Wo = fun _ => 1#1) :
    (∀ i, ∃ r : ℝ, X i = (r : EReal)) ∧ (∀ i, ∃ r : ℝ, Wq i = (r : EReal)) ∧ ∀ i, ∃ r : ℝ, K i = (r : EReal) := by
  have h0 := congrFun h (Shape.Idx.first Cert.Pre_finite_KernelIdeal.Facts.h_S_)
  dsimp only [Cert.Pre_finite_KernelIdeal.fn, andi] at h0
  have hs : Subsingleton Cert.Pre_finite_KernelIdeal.S_.Idx := ⟨fun a b => funext fun i => i.elim0⟩
  rw [IntOp.andi_eq_one, IntOp.andi_eq_one] at h0
  obtain ⟨⟨hX, hW⟩, hK⟩ := h0
  refine ⟨fun i => real_of_abs ?_, fun i => real_of_abs ?_, fun i => real_of_abs ?_⟩
  · have e := Host.reduce_andi_all _ _ _ _ _ hX i
    rw [← infinity]; exact e
  · have e := Host.reduce_andi_all _ _ _ _ _ hW i
    rw [← infinity]; exact e
  · have e := Host.reduce_andi_all _ _ _ _ _ hK i
    rw [← infinity]; exact e

/-- Device `c`'s block of sixty-four heads, read at one of its four. -/
theorem block_apply (A : (⟨4, ![2, 128, 64, 64]⟩ : Shape).Idx → EReal) (ht : Layout.Tiles ⟨4, ![2, 128, 4, 64]⟩ ⟨4, ![2, 128, 64, 64]⟩ 2 16) (c : Fin 16) (b : Fin 2) (j : Fin 128) (l : Fin 4) (d : Fin 64) :
    Layout.block ⟨4, ![2, 128, 4, 64]⟩ ⟨4, ![2, 128, 64, 64]⟩ 2 16 c A ht (ix4 b j l d) = A (ix4 b j ⟨c.val * 4 + l.val, by omega⟩ d) := by
  rw [Layout.block_apply]
  refine congrArg A (funext fun a => Fin.ext ?_)
  rw [Layout.Tiles.idx_val]
  fin_cases a <;> rfl

theorem algebraic : Cert.algebraic_KernelIdeal_ReferenceIdeal_pre_finite_KernelIdeal := fun m g m' g' hpre hm => by
  have hX : ∀ i, ∃ r : ℝ, m' (((0 : Dev Cert.ReferenceIdeal.nD).tc : Thread Cert.ReferenceIdeal.nD Cert.ReferenceIdeal.τ).loc Cert.ReferenceIdeal.main_arg0) i = (r : EReal) := by
    rw [← (hm 0).1]; exact (finite_spec (hpre 0)).1
  have hW : ∀ i, ∃ r : ℝ, m' (((0 : Dev Cert.ReferenceIdeal.nD).tc : Thread Cert.ReferenceIdeal.nD Cert.ReferenceIdeal.τ).loc Cert.ReferenceIdeal.main_arg1) i = (r : EReal) := by
    rw [← (hm 0).2.1]; exact (finite_spec (hpre 0)).2.1
  have hK : ∀ i : (⟨4, ![2, 128, 64, 64]⟩ : Shape).Idx, ∃ r : ℝ, m' (((0 : Dev Cert.ReferenceIdeal.nD).tc : Thread Cert.ReferenceIdeal.nD Cert.ReferenceIdeal.τ).loc Cert.ReferenceIdeal.main_arg2) i = (r : EReal) := fun i => by
    idx_vars i
    have e := (finite_spec (hpre (⟨i2.val / 4, by show _ < 16; omega⟩ : Dev Cert.KernelIdeal.nD))).2.2 (ix4 i0 i1 ⟨i2.val % 4, by omega⟩ i3)
    rw [(hm _).2.2.1, block_apply] at e
    rwa [show (⟨i2.val / 4 * 4 + i2.val % 4, by omega⟩ : Fin 64) = i2 from Fin.ext (by show i2.val / 4 * 4 + i2.val % 4 = i2.val; omega)] at e
  choose X hX using hX
  choose Wq hW using hW
  choose K hK using hK
  have hres : (Cert.K.res m : (⟨3, ![2, 128, 512]⟩ : Shape).Idx → EReal) = Cert.ReferenceIdeal.Value.res_out0 m' 0 := by
    funext i
    idx_vars i
    refine (Cert.K.res_apply m _ _ _ _ _ (fun c => (hm c).1) (fun c => (hm c).2.1) (fun c b j l d => (congrFun (hm c).2.2.1 _).trans (block_apply _ _ c b j l d))
      (fun c b j l d => (congrFun (hm c).2.2.2.1 _).trans (block_apply _ _ c b j l d)) (fun c => (hm c).2.2.2.2) i0 i1 i2).trans ?_
    exact (Cert.K.Ref.res_apply m' 0 (funext hX) (funext hW) (funext hK) i0 i1 i2).symm
  refine ⟨Cert.ReferenceIdeal.Value.res_out0 m' 0, ?_, ?_⟩
  · exact (θ_run Cert.KernelIdeal.defs _ _).mono (fun r h c => ⟨(h.1 c).2.trans hres, (h.1 c).1⟩) (Cert.K.run_main m g)
  · exact (θ_run Cert.ReferenceIdeal.defs _ _).mono (fun r h => h 0) (Cert.ReferenceIdeal.Value.run (F := Ideal) m' g')

end Cert.Proof

end
-- ==== Proof.lean ====
/- The claim, assembled from the parts proved under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Algebra
public import Idealize.ShloMosaic.Adequacy
public import Idealize.ShloMosaic.Init

@[expose] public section

noncomputable section

namespace Cert.Proof

open Idealize.ShloMosaic Idealize.SL.Sem Cert.Kernel

/-- Everything claimed. -/
theorem claim : Cert.Claim := ⟨Cert.Kernel.Gen.facts, Cert.KernelIdeal.Gen.facts, Cert.ReferenceIdeal.Gen.facts, facts_finite_kernel, facts_finite_reference,
  frame_kernel, frame_kernelIdeal, fun m ρ _ => frame_kernelIdeal m ρ trivial,
  frame_referenceIdeal, fun m ρ _ => frame_referenceIdeal m ρ trivial, trivial, algebraic⟩

end Cert.Proof

end
